-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)) (v3 : (c : Dev Cert.Kernel3Ideal.nD) → Buf (Elt Ideal) ((c.tc : Thread Cert.Kernel3Ideal.nD Cert.Kernel3Ideal.τ).loc Cert.Kernel3Ideal.main_v13_3)) (v4 : (c : Dev Cert.Kernel3Ideal.nD) → Buf (Elt Ideal) ((c.tc : Thread Cert.Kernel3Ideal.nD Cert.Kernel3Ideal.τ).loc Cert.Kernel3Ideal.main_v13_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_v13_3) = v3 c
          ∧ r.2.mem ((c.tc : Thread Cert.Kernel3Ideal.nD Cert.Kernel3Ideal.τ).loc Cert.Kernel3Ideal.main_v13_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_v18) = v2 c
          ∧ r.2.mem ((c.tc : Thread Cert.Reference3Ideal.nD Cert.Reference3Ideal.τ).loc Cert.Reference3Ideal.main_v19) = v3 c
          ∧ r.2.mem ((c.tc : Thread Cert.Reference3Ideal.nD Cert.Reference3Ideal.τ).loc Cert.Reference3Ideal.main_v20) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S8x4096x512 : Shape := ⟨3, ![8, 4096, 512]⟩
abbrev S4x256 : Shape := ⟨2, ![4, 256]⟩
abbrev S256 : Shape := ⟨1, ![256]⟩
abbrev S4x64x64 : Shape := ⟨3, ![4, 64, 64]⟩
abbrev S1x256 : Shape := ⟨2, ![1, 256]⟩
abbrev S4x4 : Shape := ⟨2, ![4, 4]⟩
abbrev S_ : Shape := ⟨0, ![]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S256x512 : Shape := ⟨2, ![256, 512]⟩
abbrev S1x512 : Shape := ⟨2, ![1, 512]⟩
abbrev S8x4096x256 : Shape := ⟨3, ![8, 4096, 256]⟩
abbrev S1x2048x512 : Shape := ⟨3, ![1, 2048, 512]⟩
abbrev S1x2048x256 : Shape := ⟨3, ![1, 2048, 256]⟩
abbrev S2056x256 : Shape := ⟨2, ![2056, 256]⟩
abbrev S8x256 : Shape := ⟨2, ![8, 256]⟩
abbrev S2048x256 : Shape := ⟨2, ![2048, 256]⟩
abbrev S2048x512 : Shape := ⟨2, ![2048, 512]⟩
abbrev S16x256 : Shape := ⟨2, ![16, 256]⟩
abbrev S1x16x256 : Shape := ⟨3, ![1, 16, 256]⟩

abbrev nBuf : Space → Nat
  | .hbm => 42
  | .vmem => 11
  | .smem => 0
  | _ => 0

abbrev bufTy : (tb : Table) → Fin (tcTables nBuf tb) → BufTy
  | .hbm, ⟨0, _⟩ => ⟨S8x4096x512, .f32⟩
  | .hbm, ⟨1, _⟩ => ⟨S4x256, .f32⟩
  | .hbm, ⟨2, _⟩ => ⟨S256, .f32⟩
  | .hbm, ⟨3, _⟩ => ⟨S4x64x64, .f32⟩
  | .hbm, ⟨4, _⟩ => ⟨S256, .f32⟩
  | .hbm, ⟨5, _⟩ => ⟨S4x64x64, .f32⟩
  | .hbm, ⟨6, _⟩ => ⟨S256, .f32⟩
  | .hbm, ⟨7, _⟩ => ⟨S256, .f32⟩
  | .hbm, ⟨8, _⟩ => ⟨S1x256, .f32⟩
  | .hbm, ⟨9, _⟩ => ⟨S4x4, .i32⟩
  | .hbm, ⟨10, _⟩ => ⟨S4x4, .i32⟩
  | .hbm, ⟨11, _⟩ => ⟨S_, .i32⟩
  | .hbm, ⟨12, _⟩ => ⟨S4x4, .i32⟩
  | .hbm, ⟨13, _⟩ => ⟨S4x4, .i32⟩
  | .hbm, ⟨14, _⟩ => ⟨S4x4, .i1⟩
  | .hbm, ⟨15, _⟩ => ⟨S4x4, .f32⟩
  | .hbm, ⟨16, _⟩ => ⟨S4x1x4x1, .f32⟩
  | .hbm, ⟨17, _⟩ => ⟨S4x64x1x64, .f32⟩
  | .hbm, ⟨18, _⟩ => ⟨S4x64x4x64, .f32⟩
  | .hbm, ⟨19, _⟩ => ⟨S4x64x4x64, .f32⟩
  | .hbm, ⟨20, _⟩ => ⟨S4x64x4x64, .f32⟩
  | .hbm, ⟨21, _⟩ => ⟨S256x256, .f32⟩
  | .hbm, ⟨22, _⟩ => ⟨S4x4, .i32⟩
  | .hbm, ⟨23, _⟩ => ⟨S4x4, .i32⟩
  | .hbm, ⟨24, _⟩ => ⟨S_, .i32⟩
  | .hbm, ⟨25, _⟩ => ⟨S4x4, .i32⟩
  | .hbm, ⟨26, _⟩ => ⟨S4x4, .i32⟩
  | .hbm, ⟨27, _⟩ => ⟨S4x4, .i1⟩
  | .hbm, ⟨28, _⟩ => ⟨S4x4, .f32⟩
  | .hbm, ⟨29, _⟩ => ⟨S4x1x4x1, .f32⟩
  | .hbm, ⟨30, _⟩ => ⟨S4x64x1x64, .f32⟩
  | .hbm, ⟨31, _⟩ => ⟨S4x64x4x64, .f32⟩
  | .hbm, ⟨32, _⟩ => ⟨S4x64x4x64, .f32⟩
  | .hbm, ⟨33, _⟩ => ⟨S4x64x4x64, .f32⟩
  | .hbm, ⟨34, _⟩ => ⟨S256x256, .f32⟩
  | .hbm, ⟨35, _⟩ => ⟨S256x512, .f32⟩
  | .hbm, ⟨36, _⟩ => ⟨S256x512, .bf16⟩
  | .hbm, ⟨37, _⟩ => ⟨S1x256, .f32⟩
  | .hbm, ⟨38, _⟩ => ⟨S1x256, .f32⟩
  | .hbm, ⟨39, _⟩ => ⟨S1x512, .f32⟩
  | .hbm, ⟨40, _⟩ => ⟨S1x256, .f32⟩
  | .hbm, ⟨41, _⟩ => ⟨S8x4096x256, .f32⟩
  | .local _ .vmem, ⟨0, _⟩ => ⟨S1x2048x512, .f32⟩
  | .local _ .vmem, ⟨1, _⟩ => ⟨S1x2048x512, .f32⟩
  | .local _ .vmem, ⟨2, _⟩ => ⟨S4x256, .f32⟩
  | .local _ .vmem, ⟨3, _⟩ => ⟨S1x256, .f32⟩
  | .local _ .vmem, ⟨4, _⟩ => ⟨S256x512, .bf16⟩
  | .local _ .vmem, ⟨5, _⟩ => ⟨S1x512, .f32⟩
  | .local _ .vmem, ⟨6, _⟩ => ⟨S1x256, .f32⟩
  | .local _ .vmem, ⟨7, _⟩ => ⟨S1x2048x256, .f32⟩
  | .local _ .vmem, ⟨8, _⟩ => ⟨S1x2048x256, .f32⟩
  | .local _ .vmem, ⟨9, _⟩ => ⟨S2056x256, .f32⟩
  | .local _ .vmem, ⟨10, _⟩ => ⟨S8x256, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x4096x512 : Shape := ⟨3, ![8, 4096, 512]⟩
abbrev S4x256 : Shape := ⟨2, ![4, 256]⟩
abbrev S256 : Shape := ⟨1, ![256]⟩
abbrev S4x64x64 : Shape := ⟨3, ![4, 64, 64]⟩
abbrev S8x4096x256 : Shape := ⟨3, ![8, 4096, 256]⟩
abbrev S_ : Shape := ⟨0, ![]⟩
abbrev S8x4099x256 : Shape := ⟨3, ![8, 4099, 256]⟩
abbrev S1x256 : Shape := ⟨2, ![1, 256]⟩
abbrev S1x1x256 : Shape := ⟨3, ![1, 1, 256]⟩
abbrev S8x4096x4x64 : Shape := ⟨4, ![8, 4096, 4, 64]⟩
abbrev S4x64x8x4096 : Shape := ⟨4, ![4, 64, 8, 4096]⟩
abbrev S8x256 : Shape := ⟨2, ![8, 256]⟩
abbrev S4096x8x256 : Shape := ⟨3, ![4096, 8, 256]⟩
abbrev S1x8x256 : Shape := ⟨3, ![1, 8, 256]⟩

abbrev nBuf : Space → Nat
  | .hbm => 154
  | .vmem => 0
  | .smem => 0
  | _ => 0

abbrev hbmTy0_0 (i : Nat) : BufTy := match i % 128 with
  | 0 => ⟨S8x4096x512, .f32⟩
  | 1 => ⟨S4x256, .f32⟩
  | 2 => ⟨S256, .f32⟩
  | 3 => ⟨S4x64x64, .f32⟩
  | 4 => ⟨S256, .f32⟩
  | 5 => ⟨S4x64x64, .f32⟩
  | 6 => ⟨S256, .f32⟩
  | 7 => ⟨S256, .f32⟩
  | 8 => ⟨S8x4096x256, .f32⟩
  | 9 => ⟨S_, .i32⟩
  | 10 => ⟨S_, .f32⟩
  | 11 => ⟨S8x4099x256, .f32⟩
  | 12 => ⟨S8x4096x256, .f32⟩
  | 13 => ⟨S1x256, .f32⟩
  | 14 => ⟨S256, .f32⟩
  | 15 => ⟨S1x1x256, .f32⟩
  | 16 => ⟨S8x4096x256, .f32⟩
  | 17 => ⟨S8x4096x256, .f32⟩
  | 18 => ⟨S_, .f32⟩
  | 19 => ⟨S8x4096x256, .f32⟩
  | 20 => ⟨S8x4096x256, .f32⟩
  | 21 => ⟨S8x4096x256, .f32⟩
  | 22 => ⟨S1x256, .f32⟩
  | 23 => ⟨S256, .f32⟩
  | 24 => ⟨S1x1x256, .f32⟩
  | 25 => ⟨S8x4096x256, .f32⟩
  | 26 => ⟨S8x4096x256, .f32⟩
  | 27 => ⟨S8x4096x256, .f32⟩
  | 28 => ⟨S8x4096x256, .f32⟩
  | 29 => ⟨S1x256, .f32⟩
  | 30 => ⟨S256, .f32⟩
  | 31 => ⟨S1x1x256, .f32⟩
  | 32 => ⟨S8x4096x256, .f32⟩
  | 33 => ⟨S8x4096x256, .f32⟩
  | 34 => ⟨S8x4096x256, .f32⟩
  | 35 => ⟨S8x4096x256, .f32⟩
  | 36 => ⟨S1x256, .f32⟩
  | 37 => ⟨S256, .f32⟩
  | 38 => ⟨S1x1x256, .f32⟩
  | 39 => ⟨S8x4096x256, .f32⟩
  | 40 => ⟨S8x4096x256, .f32⟩
  | 41 => ⟨S8x4096x256, .f32⟩
  | 42 => ⟨S1x1x256, .f32⟩
  | 43 => ⟨S8x4096x256, .f32⟩
  | 44 => ⟨S8x4096x256, .f32⟩
  | 45 => ⟨S8x4096x4x64, .f32⟩
  | 46 => ⟨S4x64x8x4096, .f32⟩
  | 47 => ⟨S8x4096x4x64, .f32⟩
  | 48 => ⟨S8x4096x256, .f32⟩
  | 49 => ⟨S1x1x256, .f32⟩
  | 50 => ⟨S8x4096x256, .f32⟩
  | 51 => ⟨S8x4096x256, .f32⟩
  | 52 => ⟨S8x4096x256, .f32⟩
  | 53 => ⟨S8x4096x256, .f32⟩
  | 54 => ⟨S_, .f32⟩
  | 55 => ⟨S8x4096x256, .f32⟩
  | 56 => ⟨S8x4096x256, .f32⟩
  | 57 => ⟨S_, .f32⟩
  | 58 => ⟨S8x4096x256, .f32⟩
  | 59 => ⟨S8x4096x256, .f32⟩
  | 60 => ⟨S4x64x8x4096, .f32⟩
  | 61 => ⟨S8x4096x4x64, .f32⟩
  | 62 => ⟨S8x4096x256, .f32⟩
  | 63 => ⟨S1x1x256, .f32⟩
  | 64 => ⟨S8x4096x256, .f32⟩
  | 65 => ⟨S8x4096x256, .f32⟩
  | 66 => ⟨S8x4096x256, .f32⟩
  | 67 => ⟨S8x4096x256, .f32⟩
  | 68 => ⟨S_, .f32⟩
  | 69 => ⟨S8x4096x256, .f32⟩
  | 70 => ⟨S8x4096x256, .f32⟩
  | 71 => ⟨S_, .f32⟩
  | 72 => ⟨S8x4096x256, .f32⟩
  | 73 => ⟨S8x4096x256, .f32⟩
  | 74 => ⟨S_, .f32⟩
  | 75 => ⟨S8x4096x256, .f32⟩
  | 76 => ⟨S8x4096x256, .f32⟩
  | 77 => ⟨S256, .f32⟩
  | 78 => ⟨S_, .f32⟩
  | 79 => ⟨S256, .f32⟩
  | 80 => ⟨S256, .f32⟩
  | 81 => ⟨S256, .f32⟩
  | 82 => ⟨S256, .f32⟩
  | 83 => ⟨S256, .i1⟩
  | 84 => ⟨S256, .f32⟩
  | 85 => ⟨S256, .f32⟩
  | 86 => ⟨S256, .f32⟩
  | 87 => ⟨S256, .f32⟩
  | 88 => ⟨S256, .f32⟩
  | 89 => ⟨S256, .f32⟩
  | 90 => ⟨S256, .f32⟩
  | 91 => ⟨S256, .f32⟩
  | 92 => ⟨S1x1x256, .f32⟩
  | 93 => ⟨S8x4096x256, .f32⟩
  | 94 => ⟨S8x4096x256, .f32⟩
  | 95 => ⟨S8x4096x256, .f32⟩
  | 96 => ⟨S_, .f32⟩
  | 97 => ⟨S8x4096x256, .f32⟩
  | 98 => ⟨S8x4096x256, .f32⟩
  | 99 => ⟨S8x4096x256, .f32⟩
  | 100 => ⟨S8x4096x256, .f32⟩
  | 101 => ⟨S8x4096x256, .f32⟩
  | 102 => ⟨S8x4096x256, .f32⟩
  | 103 => ⟨S8x4096x256, .f32⟩
  | 104 => ⟨S_, .f32⟩
  | 105 => ⟨S8x256, .f32⟩
  | 106 => ⟨S4096x8x256, .f32⟩
  | 107 => ⟨S4096x8x256, .f32⟩
  | 108 => ⟨S_, .f32⟩
  | 109 => ⟨S4096x8x256, .f32⟩
  | 110 => ⟨S_, .i32⟩
  | 111 => ⟨S4096x8x256, .f32⟩
  | 112 => ⟨S4096x8x256, .f32⟩
  | 113 => ⟨S_, .i32⟩
  | 114 => ⟨S8x256, .f32⟩
  | 115 => ⟨S4096x8x256, .f32⟩
  | 116 => ⟨S_, .i32⟩
  | 117 => ⟨S_, .i1⟩
  | 118 => ⟨S_, .i32⟩
  | 119 => ⟨S_, .i32⟩
  | 120 => ⟨S1x8x256, .f32⟩
  | 121 => ⟨S8x256, .f32⟩
  | 122 => ⟨S_, .i32⟩
  | 123 => ⟨S_, .i32⟩
  | 124 => ⟨S1x8x256, .f32⟩
  | 125 => ⟨S8x256, .f32⟩
  | 126 => ⟨S8x256, .f32⟩
  | 127 => ⟨S8x256, .f32⟩
  | _ => ⟨S8x4096x512, .f32⟩

abbrev hbmTy0_1 (i : Nat) : BufTy := match i % 128 with
  | 0 => ⟨S1x8x256, .f32⟩
  | 1 => ⟨S_, .i32⟩
  | 2 => ⟨S_, .i32⟩
  | 3 => ⟨S4096x8x256, .f32⟩
  | 4 => ⟨S_, .i32⟩
  | 5 => ⟨S_, .i32⟩
  | 6 => ⟨S8x4096x256, .f32⟩
  | 7 => ⟨S8x4096x256, .f32⟩
  | 8 => ⟨S8x4096x256, .f32⟩
  | 9 => ⟨S8x4096x256, .f32⟩
  | 10 => ⟨S_, .f32⟩
  | 11 => ⟨S8x4096x256, .f32⟩
  | 12 => ⟨S8x4096x256, .f32⟩
  | 13 => ⟨S8x4096x256, .f32⟩
  | 14 => ⟨S_, .f32⟩
  | 15 => ⟨S8x4096x256, .f32⟩
  | 16 => ⟨S8x4096x256, .f32⟩
  | 17 => ⟨S8x4096x256, .f32⟩
  | 18 => ⟨S_, .f32⟩
  | 19 => ⟨S8x4096x256, .f32⟩
  | 20 => ⟨S8x4096x256, .f32⟩
  | 21 => ⟨S_, .f32⟩
  | 22 => ⟨S8x4096x256, .f32⟩
  | 23 => ⟨S8x4096x256, .f32⟩
  | 24 => ⟨S8x4096x256, .f32⟩
  | 25 => ⟨S8x4096x256, .f32⟩
  | _ => ⟨S8x4096x512, .f32⟩

abbrev hbmTy (i : Nat) : BufTy := match i / 128 with
  | 0 => hbmTy0_0 i
  | 1 => hbmTy0_1 i
  | _ => ⟨S8x4096x512, .f32⟩

abbrev bufTy : (tb : Table) → Fin (tcTables nBuf tb) → BufTy
  | .hbm, ⟨i, _⟩ => hbmTy i
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_0 : Ref sig .tc := ⟨.hbm, 54, rfl⟩
abbrev main_v43 : Ref sig .tc := ⟨.hbm, 55, rfl⟩
abbrev main_v44 : Ref sig .tc := ⟨.hbm, 56, rfl⟩
abbrev main_cst_1 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_2 : Ref sig .tc := ⟨.hbm, 68, rfl⟩
abbrev main_v55 : Ref sig .tc := ⟨.hbm, 69, rfl⟩
abbrev main_v56 : Ref sig .tc := ⟨.hbm, 70, rfl⟩
abbrev main_cst_3 : Ref sig .tc := ⟨.hbm, 71, rfl⟩
abbrev main_v57 : Ref sig .tc := ⟨.hbm, 72, rfl⟩
abbrev main_v58 : Ref sig .tc := ⟨.hbm, 73, rfl⟩
abbrev main_cst_4 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_5 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_6 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_7 : Ref sig .tc := ⟨.hbm, 108, rfl⟩
abbrev main_v77 : Ref sig .tc := ⟨.hbm, 109, rfl⟩
abbrev main_c_8 : Ref sig .tc := ⟨.hbm, 110, rfl⟩
abbrev main_v78_0 : Ref sig .tc := ⟨.hbm, 111, rfl⟩
abbrev main_v78_1 : Ref sig .tc := ⟨.hbm, 112, rfl⟩
abbrev main_v78_2 : Ref sig .tc := ⟨.hbm, 113, rfl⟩
abbrev main_v78_3 : Ref sig .tc := ⟨.hbm, 114, rfl⟩
abbrev main_v78_4 : Ref sig .tc := ⟨.hbm, 115, rfl⟩
abbrev main_while0c_c_17 : Ref sig .tc := ⟨.hbm, 116, rfl⟩
abbrev main_while0c_v95 : Ref sig .tc := ⟨.hbm, 117, rfl⟩
abbrev main_while0b_call2_c : Ref sig .tc := ⟨.hbm, 118, rfl⟩
abbrev main_while0b_call2_c_0 : Ref sig .tc := ⟨.hbm, 119, rfl⟩
abbrev main_while0b_call2_v0 : Ref sig .tc := ⟨.hbm, 120, rfl⟩
abbrev main_while0b_v95 : Ref sig .tc := ⟨.hbm, 121, rfl⟩
abbrev main_while0b_call3_c : Ref sig .tc := ⟨.hbm, 122, rfl⟩
abbrev main_while0b_call3_c_0 : Ref sig .tc := ⟨.hbm, 123, rfl⟩
abbrev main_while0b_call3_v0 : Ref sig .tc := ⟨.hbm, 124, rfl⟩
abbrev main_while0b_v96 : Ref sig .tc := ⟨.hbm, 125, rfl⟩
abbrev main_while0b_v97 : Ref sig .tc := ⟨.hbm, 126, rfl⟩
abbrev main_while0b_v98 : Ref sig .tc := ⟨.hbm, 127, rfl⟩
abbrev main_while0b_call4_v0 : Ref sig .tc := ⟨.hbm, 128, rfl⟩
abbrev main_while0b_call4_c : Ref sig .tc := ⟨.hbm, 129, rfl⟩
abbrev main_while0b_call4_c_0 : Ref sig .tc := ⟨.hbm, 130, rfl⟩
abbrev main_while0b_v99 : Ref sig .tc := ⟨.hbm, 131, rfl⟩
abbrev main_while0b_c_17 : Ref sig .tc := ⟨.hbm, 132, rfl⟩
abbrev main_while0b_v100 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_9 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_cst_10 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_cst_11 : Ref sig .tc := ⟨.hbm, 146, rfl⟩
abbrev main_v89 : Ref sig .tc := ⟨.hbm, 147, rfl⟩
abbrev main_v90 : Ref sig .tc := ⟨.hbm, 148, rfl⟩
abbrev main_cst_12 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S32768x256 : Shape := ⟨2, ![32768, 256]⟩
abbrev S32768x512 : Shape := ⟨2, ![32768, 512]⟩
abbrev S32768x1024 : Shape := ⟨2, ![32768, 1024]⟩
abbrev S65536x256 : Shape := ⟨2, ![65536, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S1x1024 : Shape := ⟨2, ![1, 1024]⟩
abbrev S512x256 : Shape := ⟨2, ![512, 256]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 24
  | .vmem => 21
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x512, .f32⟩
  | .hbm, ⟨3, _⟩ => ⟨S32768x1024, .f32⟩
  | .hbm, ⟨4, _⟩ => ⟨S65536x256, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S1024x1024, .f32⟩
  | .hbm, ⟨12, _⟩ => ⟨S256x1024, .f32⟩
  | .hbm, ⟨13, _⟩ => ⟨S1024, .f32⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1024x4096, .bf16⟩
  | .hbm, ⟨18, _⟩ => ⟨S4096x1024, .bf16⟩
  | .hbm, ⟨19, _⟩ => ⟨S1x1024, .f32⟩
  | .hbm, ⟨20, _⟩ => ⟨S1024x1024, .bf16⟩
  | .hbm, ⟨21, _⟩ => ⟨S256x1024, .bf16⟩
  | .hbm, ⟨22, _⟩ => ⟨S1x1024, .f32⟩
  | .hbm, ⟨23, _⟩ => ⟨S32768x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S512x256, .f32⟩
  | .local _ .vmem, ⟨9, _⟩ => ⟨S512x256, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x4096, .bf16⟩
  | .local _ .vmem, ⟨14, _⟩ => ⟨S4096x1024, .bf16⟩
  | .local _ .vmem, ⟨15, _⟩ => ⟨S1x1024, .f32⟩
  | .local _ .vmem, ⟨16, _⟩ => ⟨S1024x1024, .bf16⟩
  | .local _ .vmem, ⟨17, _⟩ => ⟨S256x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S32768x256 : Shape := ⟨2, ![32768, 256]⟩
abbrev S32768x512 : Shape := ⟨2, ![32768, 512]⟩
abbrev S32768x1024 : Shape := ⟨2, ![32768, 1024]⟩
abbrev S65536x256 : Shape := ⟨2, ![65536, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩
abbrev S2x32768x256 : Shape := ⟨3, ![2, 32768, 256]⟩
abbrev S1x32768x256 : Shape := ⟨3, ![1, 32768, 256]⟩

abbrev nBuf : Space → Nat
  | .hbm => 103
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x512, .f32⟩
  | .hbm, ⟨3, _⟩ => ⟨S32768x1024, .f32⟩
  | .hbm, ⟨4, _⟩ => ⟨S65536x256, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S1024x1024, .f32⟩
  | .hbm, ⟨12, _⟩ => ⟨S256x1024, .f32⟩
  | .hbm, ⟨13, _⟩ => ⟨S1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1, .f32⟩
  | .hbm, ⟨27, _⟩ => ⟨S32768x1024, .f32⟩
  | .hbm, ⟨28, _⟩ => ⟨S32768x1024, .f32⟩
  | .hbm, ⟨29, _⟩ => ⟨S1x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S1x1024, .f32⟩
  | .hbm, ⟨47, _⟩ => ⟨S32768x1024, .f32⟩
  | .hbm, ⟨48, _⟩ => ⟨S32768x1024, .f32⟩
  | .hbm, ⟨49, _⟩ => ⟨S32768x4096, .f32⟩
  | .hbm, ⟨50, _⟩ => ⟨S_, .f32⟩
  | .hbm, ⟨51, _⟩ => ⟨S32768x4096, .f32⟩
  | .hbm, ⟨52, _⟩ => ⟨S32768x4096, .f32⟩
  | .hbm, ⟨53, _⟩ => ⟨S32768x4096, .f32⟩
  | .hbm, ⟨54, _⟩ => ⟨S32768x1024, .f32⟩
  | .hbm, ⟨55, _⟩ => ⟨S32768x1024, .f32⟩
  | .hbm, ⟨56, _⟩ => ⟨S_, .f32⟩
  | .hbm, ⟨57, _⟩ => ⟨S32768, .f32⟩
  | .hbm, ⟨58, _⟩ => ⟨S32768x1, .f32⟩
  | .hbm, ⟨59, _⟩ => ⟨S_, .f32⟩
  | .hbm, ⟨60, _⟩ => ⟨S32768x1, .f32⟩
  | .hbm, ⟨61, _⟩ => ⟨S32768x1, .f32⟩
  | .hbm, ⟨62, _⟩ => ⟨S_, .f32⟩
  | .hbm, ⟨63, _⟩ => ⟨S32768x1, .f32⟩
  | .hbm, ⟨64, _⟩ => ⟨S32768x1, .f32⟩
  | .hbm, ⟨65, _⟩ => ⟨S32768x1, .f32⟩
  | .hbm, ⟨66, _⟩ => ⟨S32768x1024, .f32⟩
  | .hbm, ⟨67, _⟩ => ⟨S32768x1024, .f32⟩
  | .hbm, ⟨68, _⟩ => ⟨S1x1024, .f32⟩
  | .hbm, ⟨69, _⟩ => ⟨S32768x1024, .f32⟩
  | .hbm, ⟨70, _⟩ => ⟨S32768x1024, .f32⟩
  | .hbm, ⟨71, _⟩ => ⟨S32768x1024, .f32⟩
  | .hbm, ⟨72, _⟩ => ⟨S32768x1024, .f32⟩
  | .hbm, ⟨73, _⟩ => ⟨S32768x1024, .f32⟩
  | .hbm, ⟨74, _⟩ => ⟨S32768x1024, .f32⟩
  | .hbm, ⟨75, _⟩ => ⟨S_, .f32⟩
  | .hbm, ⟨76, _⟩ => ⟨S32768x1024, .f32⟩
  | .hbm, ⟨77, _⟩ => ⟨S32768x1024, .f32⟩
  | .hbm, ⟨78, _⟩ => ⟨S_, .f32⟩
  | .hbm, ⟨79, _⟩ => ⟨S32768x1024, .f32⟩
  | .hbm, ⟨80, _⟩ => ⟨S32768x1024, .f32⟩
  | .hbm, ⟨81, _⟩ => ⟨S2x32768x256, .f32⟩
  | .hbm, ⟨82, _⟩ => ⟨S1x32768x256, .f32⟩
  | .hbm, ⟨83, _⟩ => ⟨S32768x256, .f32⟩
  | .hbm, ⟨84, _⟩ => ⟨S32768x1024, .f32⟩
  | .hbm, ⟨85, _⟩ => ⟨S32768x1024, .f32⟩
  | .hbm, ⟨86, _⟩ => ⟨S32768x1024, .f32⟩
  | .hbm, ⟨87, _⟩ => ⟨S_, .f32⟩
  | .hbm, ⟨88, _⟩ => ⟨S32768, .f32⟩
  | .hbm, ⟨89, _⟩ => ⟨S32768x1, .f32⟩
  | .hbm, ⟨90, _⟩ => ⟨S_, .f32⟩
  | .hbm, ⟨91, _⟩ => ⟨S32768x1, .f32⟩
  | .hbm, ⟨92, _⟩ => ⟨S32768x1, .f32⟩
  | .hbm, ⟨93, _⟩ => ⟨S_, .f32⟩
  | .hbm, ⟨94, _⟩ => ⟨S32768x1, .f32⟩
  | .hbm, ⟨95, _⟩ => ⟨S32768x1, .f32⟩
  | .hbm, ⟨96, _⟩ => ⟨S32768x1, .f32⟩
  | .hbm, ⟨97, _⟩ => ⟨S32768x1024, .f32⟩
  | .hbm, ⟨98, _⟩ => ⟨S32768x1024, .f32⟩
  | .hbm, ⟨99, _⟩ => ⟨S1x1024, .f32⟩
  | .hbm, ⟨100, _⟩ => ⟨S32768x1024, .f32⟩
  | .hbm, ⟨101, _⟩ => ⟨S32768x1024, .f32⟩
  | .hbm, ⟨102, _⟩ => ⟨S32768x1024, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call0_cst : Ref sig .tc := ⟨.hbm, 50, rfl⟩
abbrev main_call0_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_cst_11 : Ref sig .tc := ⟨.hbm, 90, rfl⟩
abbrev main_v62 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x3240 : Shape := ⟨2, ![1024, 3240]⟩
abbrev S1024x8 : Shape := ⟨2, ![1024, 8]⟩
abbrev S1x1024 : Shape := ⟨2, ![1, 1024]⟩
abbrev S1024x1024 : Shape := ⟨2, ![1024, 1024]⟩
abbrev S1024x512 : Shape := ⟨2, ![1024, 512]⟩
abbrev S1024x1696 : Shape := ⟨2, ![1024, 1696]⟩
abbrev S_ : Shape := ⟨0, ![]⟩
abbrev S1024x1792 : Shape := ⟨2, ![1024, 1792]⟩
abbrev S1024x128 : Shape := ⟨2, ![1024, 128]⟩
abbrev S8x1024 : Shape := ⟨2, ![8, 1024]⟩
abbrev S32768x512 : Shape := ⟨2, ![32768, 512]⟩
abbrev S32768x1792 : Shape := ⟨2, ![32768, 1792]⟩
abbrev S32768x128 : Shape := ⟨2, ![32768, 128]⟩
abbrev S8x32768 : Shape := ⟨2, ![8, 32768]⟩
abbrev S1024x1 : Shape := ⟨2, ![1024, 1]⟩

abbrev nBuf : Space → Nat
  | .hbm => 25
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3240, .f32⟩
  | .hbm, ⟨3, _⟩ => ⟨S1024x8, .f32⟩
  | .hbm, ⟨4, _⟩ => ⟨S1x1024, .f32⟩
  | .hbm, ⟨5, _⟩ => ⟨S1024x1024, .f32⟩
  | .hbm, ⟨6, _⟩ => ⟨S1024x1024, .bf16⟩
  | .hbm, ⟨7, _⟩ => ⟨S1024x512, .f32⟩
  | .hbm, ⟨8, _⟩ => ⟨S1024x512, .bf16⟩
  | .hbm, ⟨9, _⟩ => ⟨S1024x1696, .f32⟩
  | .hbm, ⟨10, _⟩ => ⟨S_, .i32⟩
  | .hbm, ⟨11, _⟩ => ⟨S_, .f32⟩
  | .hbm, ⟨12, _⟩ => ⟨S1024x1792, .f32⟩
  | .hbm, ⟨13, _⟩ => ⟨S1024x1792, .bf16⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x128, .bf16⟩
  | .hbm, ⟨18, _⟩ => ⟨S8x1024, .f32⟩
  | .hbm, ⟨19, _⟩ => ⟨S8x1024, .bf16⟩
  | .hbm, ⟨20, _⟩ => ⟨S32768x1024, .f32⟩
  | .hbm, ⟨21, _⟩ => ⟨S32768x512, .f32⟩
  | .hbm, ⟨22, _⟩ => ⟨S32768x1792, .f32⟩
  | .hbm, ⟨23, _⟩ => ⟨S32768x128, .f32⟩
  | .hbm, ⟨24, _⟩ => ⟨S8x32768, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x512, .bf16⟩
  | .local _ .vmem, ⟨5, _⟩ => ⟨S1024x1792, .bf16⟩
  | .local _ .vmem, ⟨6, _⟩ => ⟨S1024x128, .bf16⟩
  | .local _ .vmem, ⟨7, _⟩ => ⟨S8x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x512, .f32⟩
  | .local _ .vmem, ⟨11, _⟩ => ⟨S1024x512, .f32⟩
  | .local _ .vmem, ⟨12, _⟩ => ⟨S1024x1792, .f32⟩
  | .local _ .vmem, ⟨13, _⟩ => ⟨S1024x1792, .f32⟩
  | .local _ .vmem, ⟨14, _⟩ => ⟨S1024x128, .f32⟩
  | .local _ .vmem, ⟨15, _⟩ => ⟨S1024x128, .f32⟩
  | .local _ .vmem, ⟨16, _⟩ => ⟨S8x1024, .f32⟩
  | .local _ .vmem, ⟨17, _⟩ => ⟨S8x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call1_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev main_v13_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1792 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S32768x1024 : Shape := ⟨2, ![32768, 1024]⟩
abbrev S1024 : Shape := ⟨1, ![1024]⟩
abbrev S1024x3240 : Shape := ⟨2, ![1024, 3240]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3240 : Shape := ⟨2, ![32768, 3240]⟩
abbrev S32768x8 : Shape := ⟨2, ![32768, 8]⟩
abbrev S32768x512 : Shape := ⟨2, ![32768, 512]⟩
abbrev S32768x1696 : Shape := ⟨2, ![32768, 1696]⟩
abbrev S32768x1792 : Shape := ⟨2, ![32768, 1792]⟩
abbrev S32768x128 : Shape := ⟨2, ![32768, 128]⟩
abbrev S8x32768 : Shape := ⟨2, ![8, 32768]⟩

abbrev nBuf : Space → Nat
  | .hbm => 31
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3240, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3240, .f32⟩
  | .hbm, ⟨20, _⟩ => ⟨S32768x8, .f32⟩
  | .hbm, ⟨21, _⟩ => ⟨S32768x1024, .f32⟩
  | .hbm, ⟨22, _⟩ => ⟨S32768x512, .f32⟩
  | .hbm, ⟨23, _⟩ => ⟨S32768x1696, .f32⟩
  | .hbm, ⟨24, _⟩ => ⟨S_, .i32⟩
  | .hbm, ⟨25, _⟩ => ⟨S_, .f32⟩
  | .hbm, ⟨26, _⟩ => ⟨S32768x1792, .f32⟩
  | .hbm, ⟨27, _⟩ => ⟨S_, .i32⟩
  | .hbm, ⟨28, _⟩ => ⟨S_, .f32⟩
  | .hbm, ⟨29, _⟩ => ⟨S32768x128, .f32⟩
  | .hbm, ⟨30, _⟩ => ⟨S8x32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_c_2 : Ref sig .tc := ⟨.hbm, 27, rfl⟩
abbrev main_call1_v0 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Proof.Frames.lean ====
/- The frames of the three references: each runs, its arguments end unchanged, and it declares no semaphore. -/
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import Idealize.ShloMosaic.Lib.Quiescent

@[expose] public section
noncomputable section
namespace Cert.Frames
open Idealize.ShloMosaic Idealize.SL.Sem

theorem reference : @Cert.quiescent_ReferenceIdeal Cert.ReferenceIdeal.Gen.facts := fun m g _ =>
  (θ_run _ _ _).mono (fun _ h => ⟨fun c => (h c).2, sem_eq_zero_of_no_sems rfl _⟩) (Cert.ReferenceIdeal.Value.run m g)

theorem reference2 : @Cert.quiescent_Reference2Ideal Cert.Reference2Ideal.Gen.facts := fun m g _ =>
  (θ_run _ _ _).mono (fun _ h => ⟨fun c => (h c).2, sem_eq_zero_of_no_sems rfl _⟩) (Cert.Reference2Ideal.Value.run m g)

theorem reference3 : @Cert.quiescent_Reference3Ideal Cert.Reference3Ideal.Gen.facts := fun m g _ =>
  (θ_run _ _ _).mono (fun _ h => ⟨fun c => (h c).2.2.2.2.2, sem_eq_zero_of_no_sems rfl _⟩) (Cert.Reference3Ideal.Value.run m g)

end Cert.Frames
-- ==== Proof.LruGroups.lean ====
/- The serial part of the RG-LRU kernel: the block's 2048 rows are walked in 128 groups of 16, each group's states made of the
   state before the group. Stated once for every group. -/
module

public import proofs.«01_k».proof.Proof.Gen.KernelIdeal.Value
public import Idealize.ShloMosaic.Lib.ValueIdx

@[expose] public section
set_option maxRecDepth 65536
noncomputable section
namespace Cert.Lru
open Cert.KernelIdeal Cert.KernelIdeal.Gen Idealize.ShloMosaic Idealize.ShloMosaic.TcCoe Idealize.SL.Sem Idealize.ShloMosaic.Tactic
open Idealize.ShloMosaic.Pipeline (Dat)
open Idealize.ShloMosaic.ValueIdx

/-- A block of 2048 rows and 256 channels in exact arithmetic. -/
abbrev Blk := FVec Ideal S2048x256 .f32

/-- `W` holds the states of the block's rows, made from the group products `A`, the group states `H` and the state `c` before the
    block: row 16 g + q is the product times the state before the group plus the group's own state. -/
structure Chained (A H W : Blk) (c : FVec Ideal S1x256 .f32) : Prop where
  first : ∀ (q : Fin 16) (ch : Fin 256), A (ix2 ⟨q, by omega⟩ ch) * c (ix2 0 ch) + H (ix2 ⟨q, by omega⟩ ch) = W (ix2 ⟨q, by omega⟩ ch)
  next : ∀ (o : ℕ) (q : Fin 16) (ch : Fin 256) (ho : o + 32 ≤ 2048), o % 16 = 0 →
    A (ix2 ⟨o + 16 + q, by omega⟩ ch) * W (ix2 ⟨o + 15, by omega⟩ ch) + H (ix2 ⟨o + 16 + q, by omega⟩ ch) = W (ix2 ⟨o + 16 + q, by omega⟩ ch)

/-- The window of 16 rows from row `o` read at a row and a channel. -/
theorem rows_apply (W : Blk) (o : ℕ) (ho : o + 16 ≤ 2048) (h : S2048x256.Slices ![o, 0] S16x256) (q : Fin 16) (ch : Fin 256) :
    extractStridedSlice S16x256 ![o, 0] W h (ix2 q ch) = W (ix2 ⟨o + q, by omega⟩ ch) :=
  extractStridedSlice_apply _ _ _ _ _ fun a => match a with | ⟨0, _⟩ => rfl | ⟨1, _⟩ => (Nat.zero_add _).symm

/-- The last row of a group, as a row of its own, read at a channel. -/
theorem lastRow_apply (x : FVec Ideal S16x256 .f32) (h : S16x256.Slices ![15, 0] S1x256) (ch : Fin 256) :
    extractStridedSlice S1x256 ![15, 0] x h (ix2 0 ch) = x (ix2 15 ch) :=
  extractStridedSlice_apply _ _ _ _ _ fun a => match a with | ⟨0, _⟩ => rfl | ⟨1, _⟩ => (Nat.zero_add _).symm

/-- A row spread over the 16 rows of a group. -/
theorem spread_apply (x : FVec Ideal S1x256 .f32) (h : S1x256.Broadcasts S16x256) (q : Fin 16) (ch : Fin 256) :
    broadcastTo S16x256 x h (ix2 q ch) = x (ix2 0 ch) :=
  broadcastTo_apply _ _ _ _ fun a => match a with | ⟨0, _⟩ => rfl | ⟨1, _⟩ => rfl

variable {A H W : Blk} {c : FVec Ideal S1x256 .f32}

/-- The first group's states are the first 16 rows of `W`. -/
theorem group_first (hw : Chained A H W c) (h1 h2 : S2048x256.Slices ![0, 0] S16x256) (hb : S1x256.Broadcasts S16x256) :
    addf (mulf (extractStridedSlice S16x256 ![0, 0] A h1) (broadcastTo S16x256 c hb)) (extractStridedSlice S16x256 ![0, 0] H h2)
      = extractStridedSlice S16x256 ![0, 0] W h1 := by
  funext j
  obtain ⟨q, ch, rfl⟩ : ∃ (q : Fin 16) (ch : Fin 256), j = ix2 q ch := ⟨j 0, j 1, eq_ix2 j⟩
  rw [addf_apply, mulf_apply, rows_apply _ 0 (by omega), rows_apply _ 0 (by omega), rows_apply _ 0 (by omega), spread_apply]
  simpa using hw.first q ch

/-- A later group's states are the next 16 rows of `W`, when the group before was the 16 rows before. -/
theorem group_next (hw : Chained A H W c) (o o' : ℕ) (ho : o = o' + 16) (hm : o' % 16 = 0) (hl : o ≤ 2032)
    (h1 h2 : S2048x256.Slices ![o, 0] S16x256)
    (h3 : S2048x256.Slices ![o', 0] S16x256) (h4 : S16x256.Slices ![15, 0] S1x256) (hb : S1x256.Broadcasts S16x256) :
    addf (mulf (extractStridedSlice S16x256 ![o, 0] A h1)
        (broadcastTo S16x256 (extractStridedSlice S1x256 ![15, 0] (extractStridedSlice S16x256 ![o', 0] W h3) h4) hb))
        (extractStridedSlice S16x256 ![o, 0] H h2)
      = extractStridedSlice S16x256 ![o, 0] W h1 := by
  subst ho
  funext j
  obtain ⟨q, ch, rfl⟩ : ∃ (q : Fin 16) (ch : Fin 256), j = ix2 q ch := ⟨j 0, j 1, eq_ix2 j⟩
  rw [addf_apply, mulf_apply, rows_apply _ _ (by omega), rows_apply _ _ (by omega), rows_apply _ _ (by omega), spread_apply,
    lastRow_apply, rows_apply _ _ (by omega)]
  exact hw.next o' q ch (by omega) hm

/-- What a group's store holds: the 16 rows of the states times the 16 rows of the gate, at the place of the output block they go to. -/
theorem group_store (W B : Blk) (G : FVec Ideal S1x2048x256 .f32) (hG : ∀ (r : Fin 2048) (ch : Fin 256), G (ix3 0 r ch) = W (ix2 r ch) * B (ix2 r ch))
    (o : ℕ) (ho : o ≤ 2032) (h1 h2 : S2048x256.Slices ![o, 0] S16x256) (hc : S16x256.ShapeCasts S1x16x256)
    (inb : ∀ a, (![0, o, 0] : Fin 3 → ℕ) a + (![1, 16, 256] : Fin 3 → ℕ) a ≤ S1x2048x256.size a)
    (x : S1x16x256.Idx) :
    shapeCast S1x16x256 (mulf (extractStridedSlice S16x256 ![o, 0] W h1) (extractStridedSlice S16x256 ![o, 0] B h2)) hc x
      = G ((Rect.unit (s := S1x2048x256) ![0, o, 0] ![1, 16, 256] inb).emb x) := by
  obtain ⟨z, q, ch, rfl⟩ : ∃ (z : Fin 1) (q : Fin 16) (ch : Fin 256), x = ix3 z q ch := ⟨x 0, x 1, x 2, eq_ix3 x⟩
  have hz : z.val = 0 := by omega
  have e : (Rect.unit (s := S1x2048x256) ![0, o, 0] ![1, 16, 256] inb).emb (ix3 z q ch) = ix3 0 ⟨o + q, by omega⟩ ch := by
    funext a
    refine Fin.ext ?_
    match a with
    | ⟨0, _⟩ => show 0 + 1 * z.val = 0; omega
    | ⟨1, _⟩ => show o + 1 * q.val = o + q.val; omega
    | ⟨2, _⟩ => show 0 + 1 * ch.val = ch.val; omega
  rw [e, hG]
  refine (shapeCast_addUnit_apply ![16, 256] _ hc _).trans ?_
  rw [show (fun a : Fin 2 => (ix3 z q ch : S1x16x256.Idx) a.succ) = (ix2 q ch : S16x256.Idx) from eq_ix2 _]
  rw [mulf_apply, rows_apply _ _ (by omega), rows_apply _ _ (by omega)]

end Cert.Lru
-- ==== Proof.LruScan.lean ====
/- The linear recurrence h_t = a_t h_(t-1) + u_t, and the kernel's scan by doubling inside groups of 16 rows. -/
module

public import proofs.«01_k».proof.Proof.LruGroups
public import Idealize.ShloMosaic.Lib.KernelVsHost
public import Idealize.ShloMosaic.Lib.IdealHost

@[expose] public section
noncomputable section
namespace Cert.Lru
open Cert.KernelIdeal Cert.KernelIdeal.Gen Idealize.ShloMosaic Idealize.ShloMosaic.TcCoe Idealize.SL.Sem Idealize.ShloMosaic.Tactic
open Idealize.ShloMosaic.ValueIdx

/-! ## The recurrence -/

/-- The state after `n` steps from the state `c`. -/
def st (a u : ℕ → EReal) (c : EReal) : ℕ → EReal
  | 0 => c
  | n + 1 => a n * st a u c n + u n

/-- The product of `n` decays from step `s`. -/
def pr (a : ℕ → EReal) (s : ℕ) : ℕ → EReal
  | 0 => 1
  | n + 1 => pr a s n * a (s + n)

/-- The state that `n` steps from step `s` make of the zero state. -/
def seg (a u : ℕ → EReal) (s n : ℕ) : EReal := st (fun i => a (s + i)) (fun i => u (s + i)) 0 n

/-- A decay: between 0 and a finite bound, so that it distributes over a sum of any two extended reals. -/
def Decay (a : ℕ → EReal) : Prop := ∀ n, 0 ≤ a n ∧ a n ≠ ⊤

/-- After m + n steps: the state after m steps times the decays, plus what the last n steps made of zero. -/
theorem st_add {a u : ℕ → EReal} (ha : Decay a) (c : EReal) (m n : ℕ) :
    st a u c (m + n) = pr a m n * st a u c m + seg a u m n := by
  induction n with
  | zero => simp [pr, seg, st]
  | succ n ih =>
    show a (m + n) * st a u c (m + n) + u (m + n) = pr a m n * a (m + n) * st a u c m + (a (m + n) * seg a u m n + u (m + n))
    rw [ih, EReal.left_distrib_of_nonneg_of_ne_top (ha _).1 (ha _).2, add_assoc]
    congr 1
    rw [← mul_assoc, mul_comm (a (m + n))]

/-- The segments compose … -/
theorem seg_add {a u : ℕ → EReal} (ha : Decay a) (s m n : ℕ) :
    seg a u s (m + n) = pr a (s + m) n * seg a u s m + seg a u (s + m) n := by
  have h := st_add (a := fun i => a (s + i)) (u := fun i => u (s + i)) (fun i => ha _) 0 m n
  have e : pr (fun i => a (s + i)) m n = pr a (s + m) n := by
    induction n with
    | zero => rfl
    | succ n ih =>
      show pr _ m n * a (s + (m + n)) = pr a (s + m) n * a (s + m + n)
      rw [ih (st_add (fun i => ha _) 0 m n), add_assoc]
  rw [e] at h
  simpa [seg, add_assoc] using h

/-- … and so do the products. -/
theorem pr_add (a : ℕ → EReal) (s m n : ℕ) : pr a s (m + n) = pr a (s + m) n * pr a s m := by
  induction n with
  | zero => simp [pr]
  | succ n ih =>
    show pr a s (m + n) * a (s + (m + n)) = pr a (s + m) n * a (s + m + n) * pr a s m
    rw [ih, ← add_assoc, mul_right_comm]

/-- A later stretch of the recurrence is the recurrence from the state it starts with. -/
theorem st_shift (a u : ℕ → EReal) (c : EReal) (m n : ℕ) :
    st a u c (m + n) = st (fun i => a (m + i)) (fun i => u (m + i)) (st a u c m) n := by
  induction n with
  | zero => rfl
  | succ n ih => show a (m + n) * st a u c (m + n) + u (m + n) = _; rw [ih]; rfl

/-! ## Doubling inside groups of 16 -/

/-- How many rows row `r` has gathered when `d` is the reach: those of its own group, at most `d`. -/
def reach (d r : ℕ) : ℕ := min d (r % 16 + 1)

/-- The pair of blocks the doubling keeps, in one channel: the product and the state of the last `reach d r` rows. -/
def Gathered (a u : ℕ → EReal) (d : ℕ) (A H : Blk) (ch : Fin 256) : Prop :=
  ∀ r : Fin 2048, A (ix2 r ch) = pr a (r + 1 - reach d r) (reach d r) ∧ H (ix2 r ch) = seg a u (r + 1 - reach d r) (reach d r)

/-- Row r against row r - d: the mask's bit, at each of the kernel's four distances. -/
theorem mask_apply (d : ℕ) (hd : d = 1 ∨ d = 2 ∨ d = 4 ∨ d = 8) (r : Fin 2048) (ch : Fin 256) :
    cmpi .sge k0_pay20 (broadcast S2048x256 (BitVec.ofNat 32 d)) (ix2 r ch) = if d ≤ r % 16 then 1#1 else 0#1 := by
  have e : k0_pay20 (ix2 r ch) = BitVec.ofNat 32 (r.val % 16) := by
    unfold k0_pay20
    show IntOp.andi (iota .tc S2048x256 32 [0] iota_S2048x256_d0_w32 (ix2 r ch)) (15#32) = _
    rw [iota_single_apply]
    apply BitVec.eq_of_toNat_eq
    have hr := r.isLt
    show (BitVec.ofNat 32 r.val &&& 15#32).toNat = _
    rw [BitVec.toNat_and, BitVec.toNat_ofNat, BitVec.toNat_ofNat, BitVec.toNat_ofNat, Nat.mod_eq_of_lt (show r.val < 2^32 by omega), Nat.mod_eq_of_lt (show r.val % 16 < 2^32 by omega)]
    exact Nat.and_two_pow_sub_one_eq_mod r.val 4
  show IntOp.cmpi .sge (k0_pay20 (ix2 r ch)) (BitVec.ofNat 32 d) = _
  rw [e]
  have hq : r.val % 16 < 16 := Nat.mod_lt _ (by omega)
  generalize r.val % 16 = q at hq ⊢
  rcases hd with rfl | rfl | rfl | rfl <;> interval_cases q <;> rfl

/-- A block moved down by `d` rows inside the groups, `z` filled in at each group's top, read at a row and a channel. -/
theorem shifted_apply (d : ℕ) (hd : d = 1 ∨ d = 2 ∨ d = 4 ∨ d = 8) (X : Blk) (z : EReal) (hr : S2048x256.Rotates 0 none) (r : Fin 2048) (ch : Fin 256) :
    select (cmpi .sge k0_pay20 (broadcast S2048x256 (BitVec.ofNat 32 d))) (dynamicRotate 0 (BitVec.ofNat 32 d) none X hr)
        (broadcast S2048x256 z : Blk) (ix2 r ch)
      = if h : d ≤ r % 16 then X (ix2 ⟨r - d, by omega⟩ ch) else z := by
  rw [select_apply, mask_apply d hd]
  have hr16 : r.val % 16 ≤ r.val := Nat.mod_le _ _
  split
  · rename_i h
    rw [select_one]
    refine dynamicRotate_apply _ _ _ _ _ _ fun b => ?_
    have hdn : (BitVec.ofNat 32 d).toNat = d := by rcases hd with rfl | rfl | rfl | rfl <;> rfl
    have hlt := r.isLt
    match b with
    | ⟨0, _⟩ =>
      show r.val - d = (r.val + 2048 - (BitVec.ofNat 32 d).toNat % 2048) % 2048
      rw [hdn]; omega
    | ⟨1, _⟩ => rfl
  · rw [select_zero]; rfl

/-- One doubling: from reach `d` to reach 2 d. -/
theorem double {a u : ℕ → EReal} (ha : Decay a) (d : ℕ) (hd : d = 1 ∨ d = 2 ∨ d = 4 ∨ d = 8) {A H : Blk} {ch : Fin 256} (hg : Gathered a u d A H ch)
    (z o : EReal) (hz : z = 0) (ho : o = 1) (h1 h2 : S2048x256.Rotates 0 none) :
    Gathered a u (2 * d)
      (mulf A (select (cmpi .sge k0_pay20 (broadcast S2048x256 (BitVec.ofNat 32 d))) (dynamicRotate 0 (BitVec.ofNat 32 d) none A h1) (broadcast S2048x256 o : Blk)))
      (addf (mulf A (select (cmpi .sge k0_pay20 (broadcast S2048x256 (BitVec.ofNat 32 d))) (dynamicRotate 0 (BitVec.ofNat 32 d) none H h2) (broadcast S2048x256 z : Blk))) H) ch := by
  subst hz ho
  intro r
  rw [addf_apply, mulf_apply, mulf_apply, shifted_apply d hd, shifted_apply d hd]
  have hr16 : r.val % 16 ≤ r.val := Nat.mod_le _ _
  have hd0 : 0 < d := by omega
  split
  · rename_i h
    obtain ⟨eA, eH⟩ := hg r
    obtain ⟨eA', eH'⟩ := hg ⟨r - d, by omega⟩
    have n1 : reach d r = d := by unfold reach; omega
    have hmod : (r.val - d) % 16 = r.val % 16 - d := by omega
    have n2 : reach (2 * d) r = reach d (r.val - d) + d := by unfold reach; rw [hmod]; omega
    have n3 : reach d (r.val - d) ≤ r.val - d + 1 := by unfold reach; omega
    rw [n1] at eA eH
    rw [eA, eH, eA', eH', n2]
    have s1 : r.val + 1 - (reach d (r.val - d) + d) = r.val - d + 1 - reach d (r.val - d) := by omega
    have s2 : r.val + 1 - d = r.val - d + 1 - reach d (r.val - d) + reach d (r.val - d) := by omega
    rw [s1, s2, seg_add ha, pr_add]
    exact ⟨rfl, rfl⟩
  · rename_i h
    have n2 : reach (2 * d) r = reach d r := by unfold reach; omega
    rw [n2, mul_one, mul_zero, zero_add]
    exact hg r

/-- Before the first doubling each row has gathered itself. -/
theorem gathered_one (a u : ℕ → EReal) {A H : Blk} {ch : Fin 256} (hA : ∀ r : Fin 2048, A (ix2 r ch) = a r) (hH : ∀ r : Fin 2048, H (ix2 r ch) = u r) :
    Gathered a u 1 A H ch := by
  intro r
  have n1 : reach 1 r = 1 := by unfold reach; omega
  rw [n1, hA, hH]
  simp [pr, seg, st]

/-- The kernel's blocks after the four doublings: every row has gathered its group's rows up to itself. -/
theorem gathered_sixteen {a u : ℕ → EReal} (ha : Decay a) {A : Blk} {xc i nt aa : Blk} {ch : Fin 256}
    (hA : ∀ r : Fin 2048, A (ix2 r ch) = a r) (hH : ∀ r : Fin 2048, mulf (sqrt (mulf nt aa)) (mulf i xc) (ix2 r ch) = u r) :
    Gathered a u 16 (k0_pay27 k0_pay20 (k0_pay22 A) k0_pay24 4#32) (k0_pay26 k0_pay20 (k0_pay22 A) (k0_pay23 xc i A nt aa) k0_pay24 4#32) ch := by
  have z0 : (Scalar.ofBits .f32 0x00000000#32 : Ideal .f32) = (0 : EReal) := Ideal.ofBits_zero_f32
  have o1 : (Scalar.ofBits .f32 0x3F800000#32 : Ideal .f32) = (1 : EReal) := Ideal.ofBits_one_f32
  have g1 := gathered_one a u hA hH
  have g2 := double ha 1 (by simp) g1 _ _ z0 o1 rotates_S2048x256_d0 rotates_S2048x256_d0
  have g4 := double ha 2 (by simp) g2 _ _ z0 o1 rotates_S2048x256_d0 rotates_S2048x256_d0
  have g8 := double ha 4 (by simp) g4 _ _ z0 o1 rotates_S2048x256_d0 rotates_S2048x256_d0
  have g16 := double ha 8 (by simp) g8 _ _ z0 o1 rotates_S2048x256_d0 rotates_S2048x256_d0
  exact g16

/-- So the states are chained by the recurrence from the state before the block. -/
theorem chained_of_gathered (a u : Fin 256 → ℕ → EReal) (ha : ∀ ch, Decay (a ch)) {A H : Blk} (c : FVec Ideal S1x256 .f32)
    (hg : ∀ ch, Gathered (a ch) (u ch) 16 A H ch) :
    Chained A H (fun j => st (a (j 1)) (u (j 1)) (c (ix2 0 (j 1))) ((j 0).val + 1)) c := by
  constructor
  · intro q ch
    obtain ⟨eA, eH⟩ := hg ch ⟨q, by omega⟩
    have n1 : reach 16 q = q + 1 := by unfold reach; omega
    rw [eA, eH]
    show pr _ (q.val + 1 - reach 16 q) (reach 16 q) * _ + seg _ _ (q.val + 1 - reach 16 q) (reach 16 q) = st (a ch) (u ch) (c (ix2 0 ch)) (q.val + 1)
    rw [n1]
    have := st_add (u := u ch) (ha ch) (c (ix2 0 ch)) 0 (q.val + 1)
    simp only [zero_add] at this
    rw [this]
    simp [st]
  · intro o q ch ho hm
    obtain ⟨eA, eH⟩ := hg ch ⟨o + 16 + q, by omega⟩
    have n1 : reach 16 (o + 16 + q.val) = q + 1 := by unfold reach; omega
    rw [eA, eH]
    show pr _ (o + 16 + q.val + 1 - reach 16 (o + 16 + q.val)) (reach 16 (o + 16 + q.val)) * st (a ch) (u ch) (c (ix2 0 ch)) (o + 15 + 1)
      + seg _ _ (o + 16 + q.val + 1 - reach 16 (o + 16 + q.val)) (reach 16 (o + 16 + q.val)) = st (a ch) (u ch) (c (ix2 0 ch)) (o + 16 + q.val + 1)
    rw [n1, show o + 16 + q.val + 1 - (q.val + 1) = o + 16 by omega, show o + 16 + q.val + 1 = o + 16 + (q.val + 1) by omega, st_add (ha ch) _ (o + 16) (q.val + 1)]

end Cert.Lru
-- ==== Proof.LruPoint.lean ====
/- What one grid point of the RG-LRU kernel computes from its input blocks, row by row and channel by channel: the causal
   convolution, the two gates, the decay, the input of the recurrence and the gate on its result. -/
module

public import proofs.«01_k».proof.Proof.LruScan
public import Idealize.ShloMosaic.Lib.MatmulPlain
public import Idealize.ShloMosaic.Lib.Pipeline.Value

@[expose] public section
noncomputable section
namespace Cert.Lru
open Cert.KernelIdeal Cert.KernelIdeal.Gen Idealize.ShloMosaic Idealize.ShloMosaic.TcCoe Idealize.SL.Sem Idealize.ShloMosaic.Tactic
open Idealize.ShloMosaic.ValueIdx

/-! ## The scalar formulas -/

/-- The logarithm of a decay, from the recurrence gate's value and the channel's Λ, as the kernel writes it. -/
def logDecay (r l : EReal) : EReal :=
  (Ideal.ofBits .f32 0xC1000000#32 * r) * (max (0 - l) 0 + Ideal.log (1 + Ideal.exp (0 - FloatOps.absf (F := Ideal) (φ := .f32) (0 - l))))

/-- The recurrence's input, from the decay's logarithm, the input gate's value and the convolved input. -/
def gated (la i xc : EReal) : EReal :=
  Ideal.sqrt ((0 - Ideal.tanh la) * (Ideal.exp la * Ideal.exp la + 1)) * (i * xc)

/-- The gate on the recurrence's result: the tanh form of gelu. -/
def gelu (g : EReal) : EReal :=
  (Ideal.ofBits .f32 0x3F000000#32 * g) *
    (1 + Ideal.tanh (Ideal.ofBits .f32 0x3F4C422A#32 * (g + Ideal.ofBits .f32 0x3D372713#32 * ((g * g) * g))))

/-! ## The payloads, read at a row and a channel -/

/-- A row spread over all 2048 rows. -/
theorem spreadAll_apply (x : FVec Ideal S1x256 .f32) (h : S1x256.Broadcasts S2048x256) (r : Fin 2048) (ch : Fin 256) :
    broadcastTo S2048x256 x h (ix2 r ch) = x (ix2 0 ch) :=
  broadcastTo_apply _ _ _ _ fun a => match a with | ⟨0, _⟩ => rfl | ⟨1, _⟩ => rfl

/-- The row of gate biases spread over all 2048 rows. -/
theorem spreadBias_apply (x : FVec Ideal S1x512 .f32) (h : S1x512.Broadcasts S2048x512) (r : Fin 2048) (ch : Fin 512) :
    broadcastTo S2048x512 x h (ix2 r ch) = x (ix2 0 ch) :=
  broadcastTo_apply _ _ _ _ fun a => match a with | ⟨0, _⟩ => rfl | ⟨1, _⟩ => rfl

/-- A block of one batch as rows and channels. -/
theorem rowsOf_apply (v : FVec Ideal S1x2048x256 .f32) (r : Fin 2048) (ch : Fin 256) : k0_pay7 v (ix2 r ch) = v (ix3 0 r ch) := by
  unfold k0_pay7
  exact shapeCast_apply _ _ _ (ix3 0 r ch) (by rw [Shape.rowMajor_val_three, Shape.rowMajor_val_two]; simp)

/-- The same block where the kernel reads it as the gate's input. -/
theorem rowsOf_apply' (v : FVec Ideal S1x2048x256 .f32) (r : Fin 2048) (ch : Fin 256) : k0_pay8 v (ix2 r ch) = v (ix3 0 r ch) :=
  rowsOf_apply v r ch

/-- The convolution: the bias and the four taps. -/
theorem conv_apply (v3 : FVec Ideal S1x2048x256 .f32) (cb w3 w2 w1 w0 : FVec Ideal S1x256 .f32) (x1 x2 x3 : Blk) (r : Fin 2048) (ch : Fin 256) :
    k0_pay12 (k0_pay10 v3 cb w3 w2 x1 w1 x2) x3 (k0_pay11 w0) (ix2 r ch)
      = cb (ix2 0 ch) + w3 (ix2 0 ch) * v3 (ix3 0 r ch) + w2 (ix2 0 ch) * x1 (ix2 r ch) + w1 (ix2 0 ch) * x2 (ix2 r ch) + w0 (ix2 0 ch) * x3 (ix2 r ch) := by
  unfold k0_pay12 k0_pay10 k0_pay11
  simp only [addf_apply, mulf_apply, spreadAll_apply, rowsOf_apply, shapeCast_self]

variable (p q xv : Blk) (wg : FVec Ideal S256x512 .bf16) (bg : FVec Ideal S1x512 .f32) (lam : FVec Ideal S1x256 .f32)

/-- The gates' product with the block-diagonal weights, plus the bias. -/
theorem gates_apply (r : Fin 2048) (j : Fin 512) :
    k0_pay14 p xv q wg bg (ix2 r j) = (∑ k : Fin 256, k0_pay12 p xv q (ix2 r k) * wg (ix2 k j)) + bg (ix2 0 j) := by
  unfold k0_pay14
  rw [addf_apply, shapeCast_self, shapeCast_self, spreadBias_apply]
  refine congrArg (· + _) ?_
  refine (Ideal.matmul_plain_apply none (truncf .bf16 (k0_pay12 p xv q) bitsLt_bf16_f32) wg _ r j).trans ?_
  rw [constant_apply, Ideal.ofBits_zero_f32, zero_add]
  rfl

/-- The input gate. -/
theorem inputGate_apply (r : Fin 2048) (ch : Fin 256) :
    k0_pay15 p xv q wg bg (ix2 r ch) = Ideal.logistic (k0_pay14 p xv q wg bg (ix2 r ⟨256 + ch, by omega⟩)) := by
  unfold k0_pay15
  show Ideal.logistic (extractStridedSlice S2048x256 ![0, 256] (k0_pay14 p xv q wg bg) _ (ix2 r ch)) = _
  rw [extractStridedSlice_apply _ _ _ _ (ix2 r ⟨256 + ch, by omega⟩) fun a => match a with | ⟨0, _⟩ => (Nat.zero_add _).symm | ⟨1, _⟩ => rfl]

/-- The decay's logarithm. -/
theorem logDecay_apply (r : Fin 2048) (ch : Fin 256) :
    k0_pay16 p xv q wg bg lam (ix2 r ch) = logDecay (Ideal.logistic (k0_pay14 p xv q wg bg (ix2 r ⟨ch, by omega⟩))) (lam (ix2 0 ch)) := by
  unfold k0_pay16
  rw [mulf_apply, mulf_apply, spreadAll_apply, shapeCast_self]
  show (Ideal.ofBits .f32 0xC1000000#32 * Ideal.logistic (extractStridedSlice S2048x256 ![0, 0] (k0_pay14 p xv q wg bg) _ (ix2 r ch)))
    * (max (Ideal.ofBits .f32 0#32 - lam (ix2 0 ch)) (Ideal.ofBits .f32 0#32) + Ideal.log (Ideal.ofBits .f32 0x3F800000#32 + Ideal.exp (Ideal.ofBits .f32 0#32 - FloatOps.absf (F := Ideal) (φ := .f32) (Ideal.ofBits .f32 0#32 - lam (ix2 0 ch))))) = _
  rw [extractStridedSlice_apply _ _ _ _ (ix2 r ⟨ch, by omega⟩) fun a => match a with | ⟨0, _⟩ => (Nat.zero_add _).symm | ⟨1, _⟩ => (Nat.zero_add _).symm,
    Ideal.ofBits_zero_f32, Ideal.ofBits_one_f32]
  rfl

/-- The decay. -/
theorem decay_apply (r : Fin 2048) (ch : Fin 256) :
    k0_pay17 p xv q wg bg lam (ix2 r ch) = Ideal.exp (k0_pay16 p xv q wg bg lam (ix2 r ch)) := rfl

/-- The recurrence's input. -/
theorem gated_apply (xc i : Blk) (r : Fin 2048) (ch : Fin 256) :
    mulf (sqrt (mulf (k0_pay18 p xv q wg bg lam) (k0_pay19 p xv q wg bg lam))) (mulf i xc) (ix2 r ch)
      = gated (k0_pay16 p xv q wg bg lam (ix2 r ch)) (i (ix2 r ch)) (xc (ix2 r ch)) := by
  show Ideal.sqrt ((Ideal.ofBits .f32 0#32 - Ideal.tanh (k0_pay16 p xv q wg bg lam (ix2 r ch)))
    * (Ideal.exp (k0_pay16 p xv q wg bg lam (ix2 r ch)) * Ideal.exp (k0_pay16 p xv q wg bg lam (ix2 r ch)) + Ideal.ofBits .f32 0x3F800000#32))
    * (i (ix2 r ch) * xc (ix2 r ch)) = _
  rw [Ideal.ofBits_zero_f32, Ideal.ofBits_one_f32]
  rfl

/-- The gate on the result. -/
theorem gelu_apply (v : Blk) (r : Fin 2048) (ch : Fin 256) : k0_pay28 v (ix2 r ch) = gelu (v (ix2 r ch)) := by
  unfold k0_pay28 gelu
  show (Ideal.ofBits .f32 0x3F000000#32 * v (ix2 r ch)) * (Ideal.ofBits .f32 0x3F800000#32 + _) = _
  rw [Ideal.ofBits_one_f32]
  rfl

/-! ## A grid point's mathematics -/

/-- The convolved input of row `r`, from the rows `x` of the block and of the 8 rows before it (`x (8 + r)` is row `r`). -/
def convAt (x : ℕ → Fin 256 → EReal) (w : FVec Ideal S4x256 .f32) (cb : FVec Ideal S1x256 .f32) (r : ℕ) (ch : Fin 256) : EReal :=
  cb (ix2 0 ch) + w (ix2 3 ch) * x (8 + r) ch + w (ix2 2 ch) * x (7 + r) ch + w (ix2 1 ch) * x (6 + r) ch + w (ix2 0 ch) * x (5 + r) ch

/-- A gate's value before the logistic: column `j` of the product with the gate weights, plus the bias. -/
def gateAt (xc : Fin 256 → EReal) (wg : FVec Ideal S256x512 .bf16) (bg : FVec Ideal S1x512 .f32) (j : Fin 512) : EReal :=
  (∑ k : Fin 256, xc k * wg (ix2 k j)) + bg (ix2 0 j)

/-- The decay's logarithm from the convolved row. -/
def laAt (xc : Fin 256 → EReal) (wg : FVec Ideal S256x512 .bf16) (bg : FVec Ideal S1x512 .f32) (lam : FVec Ideal S1x256 .f32) (ch : Fin 256) : EReal :=
  logDecay (Ideal.logistic (gateAt xc wg bg ⟨ch, by omega⟩)) (lam (ix2 0 ch))

/-- The recurrence's input from the convolved row. -/
def uAt (xc : Fin 256 → EReal) (wg : FVec Ideal S256x512 .bf16) (bg : FVec Ideal S1x512 .f32) (lam : FVec Ideal S1x256 .f32) (ch : Fin 256) : EReal :=
  gated (laAt xc wg bg lam ch) (Ideal.logistic (gateAt xc wg bg ⟨256 + ch, by omega⟩)) (xc ch)

/-- The kernel's blocks after the four doublings, from its input blocks: the decays and inputs of each group's rows gathered. -/
theorem point_gathered (x : ℕ → Fin 256 → EReal) (w : FVec Ideal S4x256 .f32) (cb w3 w2 w1 w0 : FVec Ideal S1x256 .f32)
    (v3 : FVec Ideal S1x2048x256 .f32) (x1 x2 x3 : Blk) (cb' : FVec Ideal S1x256 .f32)
    (h3 : ∀ (r : Fin 2048) ch, v3 (ix3 0 r ch) = x (8 + r) ch) (hx1 : ∀ (r : Fin 2048) ch, x1 (ix2 r ch) = x (7 + r) ch)
    (hx2 : ∀ (r : Fin 2048) ch, x2 (ix2 r ch) = x (6 + r) ch) (hx3 : ∀ (r : Fin 2048) ch, x3 (ix2 r ch) = x (5 + r) ch)
    (hcb : ∀ ch, cb (ix2 0 ch) = cb' (ix2 0 ch)) (hw3 : ∀ ch, w3 (ix2 0 ch) = w (ix2 3 ch)) (hw2 : ∀ ch, w2 (ix2 0 ch) = w (ix2 2 ch))
    (hw1 : ∀ ch, w1 (ix2 0 ch) = w (ix2 1 ch)) (hw0 : ∀ ch, w0 (ix2 0 ch) = w (ix2 0 ch))
    (ch : Fin 256) (hd : Decay fun r => Ideal.exp (laAt (convAt x w cb' r) wg bg lam ch)) :
    Gathered (fun r => Ideal.exp (laAt (convAt x w cb' r) wg bg lam ch)) (fun r => uAt (convAt x w cb' r) wg bg lam ch) 16
      (k0_pay27 k0_pay20 (k0_pay22 (k0_pay17 (k0_pay10 v3 cb w3 w2 x1 w1 x2) x3 (k0_pay11 w0) wg bg lam)) k0_pay24 4#32)
      (k0_pay26 k0_pay20 (k0_pay22 (k0_pay17 (k0_pay10 v3 cb w3 w2 x1 w1 x2) x3 (k0_pay11 w0) wg bg lam))
        (k0_pay23 (k0_pay12 (k0_pay10 v3 cb w3 w2 x1 w1 x2) x3 (k0_pay11 w0)) (k0_pay15 (k0_pay10 v3 cb w3 w2 x1 w1 x2) x3 (k0_pay11 w0) wg bg)
          (k0_pay17 (k0_pay10 v3 cb w3 w2 x1 w1 x2) x3 (k0_pay11 w0) wg bg lam) (k0_pay18 (k0_pay10 v3 cb w3 w2 x1 w1 x2) x3 (k0_pay11 w0) wg bg lam)
          (k0_pay19 (k0_pay10 v3 cb w3 w2 x1 w1 x2) x3 (k0_pay11 w0) wg bg lam)) k0_pay24 4#32) ch := by
  have hc : ∀ (r : Fin 2048) ch, k0_pay12 (F := Ideal) (k0_pay10 v3 cb w3 w2 x1 w1 x2) x3 (k0_pay11 w0) (ix2 r ch) = convAt x w cb' r ch := by
    intro r ch; rw [conv_apply, h3, hx1, hx2, hx3, hcb, hw3, hw2, hw1, hw0]; rfl
  have hgt : ∀ (r : Fin 2048) j, k0_pay14 (F := Ideal) (k0_pay10 v3 cb w3 w2 x1 w1 x2) x3 (k0_pay11 w0) wg bg (ix2 r j) = gateAt (convAt x w cb' r) wg bg j := by
    intro r j; rw [gates_apply]; simp only [hc]; rfl
  have hla : ∀ (r : Fin 2048), k0_pay16 (F := Ideal) (k0_pay10 v3 cb w3 w2 x1 w1 x2) x3 (k0_pay11 w0) wg bg lam (ix2 r ch) = laAt (convAt x w cb' r) wg bg lam ch := by
    intro r; rw [logDecay_apply, hgt]; rfl
  refine gathered_sixteen hd (fun r => ?_) (fun r => ?_)
  · rw [decay_apply, hla]
  · rw [gated_apply, hla, inputGate_apply, hgt, hc]; rfl

end Cert.Lru
-- ==== Proof.LruMath.lean ====
/- The scalar facts of the RG-LRU: a decay lies between 0 and 1, and the two programs' spellings of the softplus, of
   1 - a² and of gelu agree on every extended real. -/
module

public import proofs.«01_k».proof.Proof.LruPoint

@[expose] public section
noncomputable section
namespace Cert.Lru
open Idealize.ShloMosaic

/-- The constant -8. -/
theorem ofBits_neg_eight : Ideal.ofBits .f32 0xC1000000#32 = ((-(8 : ℝ)) : EReal) := by
  simp [Ideal.ofBits, Ideal.ieee]
  rw [← EReal.coe_mul]
  norm_num

/-- The constant 2. -/
theorem ofBits_two : Ideal.ofBits .f32 0x40000000#32 = ((2 : ℝ) : EReal) := by
  simp [Ideal.ofBits, Ideal.ieee]
  rw [← EReal.coe_mul]
  norm_num

/-- An exponential is not negative. -/
theorem exp_nonneg (x : EReal) : 0 ≤ Ideal.exp x := by
  induction x with
  | bot => simp
  | top => simp
  | coe r => simp only [Ideal.exp_coe]; exact_mod_cast (Real.exp_pos r).le

/-- The exponential of a number that is not positive is finite. -/
theorem exp_ne_top {x : EReal} (h : x ≤ 0) : Ideal.exp x ≠ ⊤ := by
  induction x with
  | bot => simp
  | top => simp at h
  | coe r => simp

/-- A logistic is not negative. -/
theorem logistic_nonneg (x : EReal) : 0 ≤ Ideal.logistic x := by
  induction x with
  | bot => simp
  | top => simp
  | coe r =>
    simp only [Ideal.logistic_coe]
    exact_mod_cast inv_nonneg.mpr (by have := Real.exp_pos (-r); linarith)

/-- The logarithm of one plus an exponential is not negative. -/
theorem log_nonneg (x : EReal) : 0 ≤ Ideal.log (1 + Ideal.exp x) := by
  induction x with
  | bot =>
    have : (1 : EReal) = ((1 : ℝ) : EReal) := rfl
    simp only [Ideal.exp_bot, add_zero]; rw [this, Ideal.log_coe]; norm_num
  | top =>
    show 0 ≤ Ideal.log (((1 : ℝ) : EReal) + Ideal.exp ⊤)
    rw [Ideal.exp_top, EReal.coe_add_top]; simp
  | coe r =>
    have hp := Real.exp_pos r
    have : (1 : EReal) + Ideal.exp (r : EReal) = ((1 + Real.exp r : ℝ) : EReal) := by simp
    rw [this, Ideal.log_coe, if_neg (by linarith)]
    exact_mod_cast Real.log_nonneg (by linarith)

/-- A decay's logarithm is not positive. -/
theorem logDecay_nonpos (x l : EReal) : logDecay (Ideal.logistic x) l ≤ 0 := by
  unfold logDecay
  rw [ofBits_neg_eight, show ((-(8 : ℝ)) : EReal) = -((8 : ℝ) : EReal) from rfl, EReal.neg_mul, EReal.neg_mul]
  refine EReal.neg_le.mpr ?_
  rw [neg_zero]
  refine mul_nonneg (mul_nonneg ?_ (logistic_nonneg x)) (add_nonneg (le_max_right _ _) (log_nonneg _))
  exact_mod_cast (by norm_num : (0 : ℝ) ≤ 8)

/-- So the decays of a channel are decays. -/
theorem decay_exp (f : ℕ → EReal) (hf : ∀ n, f n ≤ 0) : Decay fun n => Ideal.exp (f n) :=
  fun n => ⟨exp_nonneg _, exp_ne_top (hf n)⟩

/-- 1 - a² from the decay's logarithm: the kernel's product is the reference's -expm1 of twice the logarithm. -/
theorem one_sub_sq {l : EReal} (h : l ≤ 0) :
    (0 - Ideal.tanh l) * (Ideal.exp l * Ideal.exp l + 1) = -(Ideal.exp (Ideal.ofBits .f32 0x40000000#32 * l) - 1) := by
  rw [ofBits_two]
  induction l with
  | bot =>
    rw [EReal.coe_mul_bot_of_pos (by norm_num)]
    simp
  | top => simp at h
  | coe r =>
    have e1 : Ideal.exp (((2 : ℝ) : EReal) * (r : EReal)) = ((Real.exp (2 * r) : ℝ) : EReal) := by
      rw [← EReal.coe_mul, Ideal.exp_coe]
    rw [e1, Ideal.tanh_coe, Ideal.exp_coe]
    have : (0 - Real.tanh r) * (Real.exp r * Real.exp r + 1) = -(Real.exp (2 * r) - 1) := by
      have hp := Real.exp_pos r
      have hn : Real.exp (-r) = (Real.exp r)⁻¹ := Real.exp_neg r
      rw [Real.tanh_eq_sinh_div_cosh, Real.sinh_eq, Real.cosh_eq, hn, two_mul, Real.exp_add]
      have : Real.exp r + (Real.exp r)⁻¹ ≠ 0 := by positivity
      field_simp
      ring
    exact_mod_cast congrArg (fun x : ℝ => (x : EReal)) this

end Cert.Lru
-- ==== Proof.LruWords.lean ====
/- What the RG-LRU kernel reads at a grid point, and the states it chains: the rows of its block and of the 8 rows before it, the
   taps, the gates' weights and biases, and the state before the block. -/
module

public import proofs.«01_k».proof.Proof.LruMath
public import Idealize.ShloMosaic.Lib.Pipeline.ValueKit

@[expose] public section
set_option maxRecDepth 65536
noncomputable section
namespace Cert.Lru
open Cert.KernelIdeal Cert.KernelIdeal.Gen Idealize.ShloMosaic.TcCoe Idealize.SL.Sem Idealize.ShloMosaic.Tactic
open Idealize.ShloMosaic hiding ix1 ix2 ix3 ix4 ix5 eq_ix1 eq_ix2 eq_ix3 eq_ix4 eq_ix5
open Idealize.ShloMosaic.ValueIdx

/-- The buffer the convolution reads: 8 rows of the block before, then the block's 2048 rows. -/
def rowsWith (old : ℕ → Fin 256 → EReal) (x0 : FVec Ideal S1x2048x512 .f32) (n : ℕ) (ch : Fin 256) : EReal :=
  if h : 8 ≤ n ∧ n < 2056 then x0 (ix3 0 ⟨n - 8, by omega⟩ ⟨ch, by omega⟩) else old n ch

/-- The logarithm of row `r`'s decay. -/
def laOf (old : ℕ → Fin 256 → EReal) (x0 : FVec Ideal S1x2048x512 .f32) (x1 : FVec Ideal S4x256 .f32) (x2 : FVec Ideal S1x256 .f32)
    (x3 : FVec Ideal S256x512 .bf16) (x4 : FVec Ideal S1x512 .f32) (x5 : FVec Ideal S1x256 .f32) (ch : Fin 256) (r : ℕ) : EReal :=
  laAt (convAt (rowsWith old x0) x1 x2 r) x3 x4 x5 ch

/-- Row `r`'s input to the recurrence. -/
def uOf (old : ℕ → Fin 256 → EReal) (x0 : FVec Ideal S1x2048x512 .f32) (x1 : FVec Ideal S4x256 .f32) (x2 : FVec Ideal S1x256 .f32)
    (x3 : FVec Ideal S256x512 .bf16) (x4 : FVec Ideal S1x512 .f32) (x5 : FVec Ideal S1x256 .f32) (ch : Fin 256) (r : ℕ) : EReal :=
  uAt (convAt (rowsWith old x0) x1 x2 r) x3 x4 x5 ch

/-- The block's states: the recurrence from the state before the block. -/
def states (old : ℕ → Fin 256 → EReal) (x0 : FVec Ideal S1x2048x512 .f32) (x1 : FVec Ideal S4x256 .f32) (x2 : FVec Ideal S1x256 .f32)
    (x3 : FVec Ideal S256x512 .bf16) (x4 : FVec Ideal S1x512 .f32) (x5 : FVec Ideal S1x256 .f32) (c : Fin 256 → EReal) : Blk :=
  fun j => st (fun r => Ideal.exp (laOf old x0 x1 x2 x3 x4 x5 (j 1) r)) (uOf old x0 x1 x2 x3 x4 x5 (j 1)) (c (j 1)) ((j 0).val + 1)

/-- The decays of a channel lie between 0 and 1. -/
theorem decays (x : ℕ → Fin 256 → EReal) (w : FVec Ideal S4x256 .f32) (cb : FVec Ideal S1x256 .f32) (wg : FVec Ideal S256x512 .bf16)
    (bg : FVec Ideal S1x512 .f32) (lam : FVec Ideal S1x256 .f32) {ch : Fin 256} :
    Decay fun r => Ideal.exp (laAt (convAt x w cb r) wg bg lam ch) :=
  decay_exp _ fun _ => logDecay_nonpos _ _

/-- The decays of a block's channel lie between 0 and 1. -/
theorem decaysOf (old : ℕ → Fin 256 → EReal) (x0 : FVec Ideal S1x2048x512 .f32) (x1 : FVec Ideal S4x256 .f32) (x2 : FVec Ideal S1x256 .f32)
    (x3 : FVec Ideal S256x512 .bf16) (x4 : FVec Ideal S1x512 .f32) (x5 : FVec Ideal S1x256 .f32) (ch : Fin 256) :
    Decay fun r => Ideal.exp (laOf old x0 x1 x2 x3 x4 x5 ch r) :=
  decays _ _ _ _ _ _

/-- The chain at the state before the block written out. -/
theorem chained_congr {A H : Blk} {c : FVec Ideal S1x256 .f32} {c' : Fin 256 → EReal} (hc : ∀ ch, c (ix2 0 ch) = c' ch)
    {a u : Fin 256 → ℕ → EReal} (h : Chained A H (fun j => st (a (j 1)) (u (j 1)) (c (ix2 0 (j 1))) ((j 0).val + 1)) c) :
    Chained A H (fun j => st (a (j 1)) (u (j 1)) (c' (j 1)) ((j 0).val + 1)) c := by
  have e : (fun j : S2048x256.Idx => st (a (j 1)) (u (j 1)) (c (ix2 0 (j 1))) ((j 0).val + 1)) = fun j => st (a (j 1)) (u (j 1)) (c' (j 1)) ((j 0).val + 1) :=
    funext fun j => congrArg (fun s => st (a (j 1)) (u (j 1)) s ((j 0).val + 1)) (hc (j 1))
  exact e ▸ h

/-! ## Reads of the input blocks -/

/-- A load of a whole buffer's rectangle reads its contents at the rectangle's indices. -/
theorem readAt_unread {s : Shape} {e : EltTy} (a : Memref sig .tc .vmem s e) (ha : a.IsWhole) (X : s.Idx → Elt Ideal e) (B : LoadRect s) (j : B.shape.Idx) :
    View.readAt (Elt Ideal) a.view B (ha.unread X) j = X (B.idx j) := by
  rw [View.readAt_apply, ha.read_unread]

variable (c : Dev nD) (i : grid0.Coords)
  (arg2 : Memref sig .tc .vmem S1x2048x512 .f32) (harg2 : arg2.IsWhole)
  (arg3 : Memref sig .tc .vmem S4x256 .f32) (harg3 : arg3.IsWhole)
  (arg4 : Memref sig .tc .vmem S1x256 .f32) (harg4 : arg4.IsWhole)
  (arg5 : Memref sig .tc .vmem S256x512 .bf16) (harg5 : arg5.IsWhole)
  (arg6 : Memref sig .tc .vmem S1x512 .f32) (harg6 : arg6.IsWhole)
  (arg7 : Memref sig .tc .vmem S1x256 .f32) (harg7 : arg7.IsWhole)
  (arg8 : Memref sig .tc .vmem S1x2048x256 .f32) (harg8 : arg8.IsWhole)
  (arg9 : Memref sig .tc .vmem S2056x256 .f32) (harg9 : arg9.IsWhole)
  (arg10 : Memref sig .tc .vmem S8x256 .f32) (harg10 : arg10.IsWhole)
  (x0 : Vec Ideal S1x2048x512 .f32) (x1 : Vec Ideal S4x256 .f32) (x2 : Vec Ideal S1x256 .f32) (x3 : Vec Ideal S256x512 .bf16) (x4 : Vec Ideal S1x512 .f32) (x5 : Vec Ideal S1x256 .f32)
  (xs0 : Vec Ideal S2056x256 .f32) (xs1 : Vec Ideal S8x256 .f32)

/-- The recurrent half of the block's rows. -/
theorem input_rows (old : ℕ → Fin 256 → EReal) (inb) (r : Fin 2048) (ch : Fin 256) :
    View.readAt (Elt Ideal) arg2.view (Rect.unit (s := S1x2048x512) ![0, 0, 0] S1x2048x256.size inb).toLoadRect (harg2.unread x0) (ix3 0 r ch)
      = rowsWith old x0 (8 + r) ch := by
  rw [readAt_unread, rowsWith, dif_pos (by omega)]
  refine congrArg x0 (funext fun a => Fin.ext ?_)
  rw [Rect.idx_unit_val]
  match a with
  | ⟨0, _⟩ => rfl
  | ⟨1, _⟩ => show 0 + r.val = 8 + r.val - 8; omega
  | ⟨2, _⟩ => exact Nat.zero_add _

/-- The gate's half of the block's rows. -/
theorem gate_rows (inb) (r : Fin 2048) (ch : Fin 256) :
    View.readAt (Elt Ideal) arg2.view (Rect.unit (s := S1x2048x512) ![0, 0, 256] S1x2048x256.size inb).toLoadRect (harg2.unread x0) (ix3 0 r ch)
      = x0 (ix3 0 r ⟨256 + ch, by omega⟩) := by
  rw [readAt_unread]
  refine congrArg x0 (funext fun a => Fin.ext ?_)
  rw [Rect.idx_unit_val]
  match a with
  | ⟨0, _⟩ => rfl
  | ⟨1, _⟩ => exact Nat.zero_add _
  | ⟨2, _⟩ => rfl

/-- A row of 256 channels read whole. -/
theorem readRow_apply (inb) (ch : Fin 256) :
    View.readAt (Elt Ideal) arg4.view (Rect.unit (s := S1x256) ![0, 0] S1x256.size inb).toLoadRect (harg4.unread x2) (ix2 0 ch) = x2 (ix2 0 ch) := by
  rw [readAt_unread]
  refine congrArg x2 (funext fun a => Fin.ext ?_)
  rw [Rect.idx_unit_val]
  match a with
  | ⟨0, _⟩ => rfl
  | ⟨1, _⟩ => exact Nat.zero_add _

/-- A tap's row. -/
theorem readTap_apply (j : Fin 4) (inb) (ch : Fin 256) :
    View.readAt (Elt Ideal) arg3.view (Rect.unit (s := S4x256) ![j.val, 0] S1x256.size inb).toLoadRect (harg3.unread x1) (ix2 0 ch) = x1 (ix2 j ch) := by
  rw [readAt_unread]
  refine congrArg x1 (funext fun a => Fin.ext ?_)
  rw [Rect.idx_unit_val]
  match a with
  | ⟨0, _⟩ => rfl
  | ⟨1, _⟩ => exact Nat.zero_add _

/-- A whole buffer read through the rectangle of its own shape. -/
theorem readWhole {s : Shape} {e : EltTy} (a : Memref sig .tc .vmem s e) (ha : a.IsWhole) (X : s.Idx → Elt Ideal e) (off : Fin s.rank → ℕ) (inb) :
    View.readAt (Elt Ideal) a.view (Rect.unit (s := s) off s.size inb).toLoadRect (ha.unread X) = X := by
  funext j
  rw [readAt_unread]
  refine congrArg X (funext fun a => Fin.ext ?_)
  rw [Rect.idx_unit_val]
  have := inb a
  omega

/-- The first block finds the state zero. -/
theorem carry_zero (ch : Fin 256) : (kernelRun0_A.sl.v145 (F := Ideal) c arg10 : FVec Ideal S1x256 .f32) (ix2 0 ch) = 0 := by
  unfold kernelRun0_A.sl.v145 kernelRun0_A.sl.HS1_1
  rw [View.readCov_eq_canon', View.canon_cons_unit_lit _ _ _ (by decide)]
  unfold k0_pay6
  rw [shapeCast_self]
  exact Ideal.ofBits_zero_f32

/-- The rows before the sequence are zero. -/
theorem pay5_zero (j : S8x256.Idx) : k0_pay5 (F := Ideal) j = 0 := by
  unfold k0_pay5
  rw [shapeCast_self]
  exact Ideal.ofBits_zero_f32

/-- A later block finds the state the carried row holds. -/
theorem carry_old (ch : Fin 256) :
    (View.readAt (Elt Ideal) arg10.view (Rect.unit (s := S8x256) ![0, 0] S1x256.size inb_S8x256_S1x256_0_0).toLoadRect (harg10.unread xs1) : FVec Ideal S1x256 .f32) (ix2 0 ch)
      = xs1 (ix2 0 ch) := by
  rw [readAt_unread]
  refine congrArg xs1 (funext fun a => Fin.ext ?_)
  rw [Rect.idx_unit_val]
  match a with
  | ⟨0, _⟩ => rfl
  | ⟨1, _⟩ => exact Nat.zero_add _

/-- The block's rows as they are stored behind the 8 rows before them. -/
theorem stored_rows (inb) (r : Fin 2048) (ch : Fin 256) (old : ℕ → Fin 256 → EReal) :
    k0_pay9 (F := Ideal) (View.readAt (Elt Ideal) arg2.view (Rect.unit (s := S1x2048x512) ![0, 0, 0] S1x2048x256.size inb).toLoadRect (harg2.unread x0)) (ix2 r ch)
      = rowsWith old x0 (8 + r) ch := by
  unfold k0_pay9
  rw [shapeCast_self, rowsOf_apply, input_rows arg2 harg2 x0 old]

/-- What the first block's convolution reads `8 - o` rows back: rows of the block, or zero before the first. -/
theorem A_read (o : ℕ) (inb) (r : Fin 2048) (ch : Fin 256) (ho : o ≤ 8) :
    (arg9.view.readCov (kernelRun0_A.sl.HS0_2 (F := Ideal) c arg2 harg2 x0) (Rect.unit (s := S2056x256) ![o, 0] S2048x256.size inb).toLoadRect : Blk) (ix2 r ch)
      = rowsWith (fun _ _ => 0) x0 (o + r) ch := by
  rw [View.readCov_eq_canon']
  have e : (Rect.unit (s := S2056x256) ![o, 0] S2048x256.size inb).toLoadRect.idx (ix2 r ch) = ix2 ⟨o + r, by omega⟩ ch := by
    refine funext fun a => Fin.ext ?_
    rw [Rect.idx_unit_val]
    match a with
    | ⟨0, _⟩ => rfl
    | ⟨1, _⟩ => exact Nat.zero_add _
  show View.canon _ _ = _
  rw [e]
  unfold kernelRun0_A.sl.HS0_2
  by_cases h : 8 ≤ o + r.val
  · have e2 : (ix2 (⟨o + r, by omega⟩ : Fin 2056) ch : S2056x256.Idx) = (Rect.unit (s := S2056x256) ![8, 0] S2048x256.size inb_S2056x256_S2048x256_8_0).emb (ix2 ⟨o + r - 8, by omega⟩ ch) := by
      refine funext fun a => Fin.ext ?_
      rw [ValueKit.rect_emb_unit_val]
      match a with
      | ⟨0, _⟩ => show o + r.val = 8 + (o + r.val - 8); omega
      | ⟨1, _⟩ => exact (Nat.zero_add _).symm
    rw [e2, View.canon_cons_emb, stored_rows arg2 harg2 x0 _ _ _ (fun _ _ => 0)]
    show rowsWith _ x0 (8 + (o + r.val - 8)) ch = _
    rw [show 8 + (o + r.val - 8) = o + r.val by omega]
  · have hn : ix2 (⟨o + r, by omega⟩ : Fin 2056) ch ∉ (Rect.unit (s := S2056x256) ![8, 0] S2048x256.size inb_S2056x256_S2048x256_8_0).set := by
      rw [Rect.mem_set_unit]
      intro hm
      exact h (hm 0).1
    rw [View.canon_cons_of_not_mem]
    swap
    · exact hn
    have e2 : (ix2 (⟨o + r, by omega⟩ : Fin 2056) ch : S2056x256.Idx) = (Rect.unit (s := S2056x256) ![0, 0] S8x256.size inb_S2056x256_S8x256_0_0).emb (ix2 ⟨o + r, by omega⟩ ch) := by
      refine funext fun a => Fin.ext ?_
      rw [ValueKit.rect_emb_unit_val]
      match a with
      | ⟨0, _⟩ => exact (Nat.zero_add _).symm
      | ⟨1, _⟩ => exact (Nat.zero_add _).symm
    have e3 : rowsWith (fun _ _ => 0) x0 (o + r) ch = 0 := by rw [rowsWith, dif_neg (by omega)]
    rw [e3, e2, View.canon_cons_emb]
    exact pay5_zero _

/-- What a later block's convolution reads `8 - o` rows back: rows of the block, or the rows kept of the block before. -/
theorem B_read (o : ℕ) (inb) (r : Fin 2048) (ch : Fin 256) (ho : o ≤ 8) :
    (View.readAt (Elt Ideal) arg9.view (Rect.unit (s := S2056x256) ![o, 0] S2048x256.size inb).toLoadRect
        (arg9.view.writes (Elt Ideal) (harg9.unread xs0) (kernelRun0_B.sl.HS0_1 (F := Ideal) c arg2 harg2 x0)) : Blk) (ix2 r ch)
      = rowsWith (fun n ch => if h : n < 2056 then xs0 (ix2 ⟨n, h⟩ ch) else 0) x0 (o + r) ch := by
  rw [View.readAt_apply]
  have e : (Rect.unit (s := S2056x256) ![o, 0] S2048x256.size inb).toLoadRect.idx (ix2 r ch) = ix2 ⟨o + r, by omega⟩ ch := by
    refine funext fun a => Fin.ext ?_
    rw [Rect.idx_unit_val]
    match a with
    | ⟨0, _⟩ => rfl
    | ⟨1, _⟩ => exact Nat.zero_add _
  rw [e]
  unfold kernelRun0_B.sl.HS0_1
  by_cases h : 8 ≤ o + r.val
  · have e2 : (ix2 (⟨o + r, by omega⟩ : Fin 2056) ch : S2056x256.Idx) = (Rect.unit (s := S2056x256) ![8, 0] S2048x256.size inb_S2056x256_S2048x256_8_0).emb (ix2 ⟨o + r - 8, by omega⟩ ch) := by
      refine funext fun a => Fin.ext ?_
      rw [ValueKit.rect_emb_unit_val]
      match a with
      | ⟨0, _⟩ => show o + r.val = 8 + (o + r.val - 8); omega
      | ⟨1, _⟩ => exact (Nat.zero_add _).symm
    rw [e2, View.read_writes_cons_emb, stored_rows arg2 harg2 x0 _ _ _ (fun n ch => if h : n < 2056 then xs0 (ix2 ⟨n, h⟩ ch) else 0)]
    show rowsWith _ x0 (8 + (o + r.val - 8)) ch = _
    rw [show 8 + (o + r.val - 8) = o + r.val by omega]
  · have hn : ix2 (⟨o + r, by omega⟩ : Fin 2056) ch ∉ (Rect.unit (s := S2056x256) ![8, 0] S2048x256.size inb_S2056x256_S2048x256_8_0).set := by
      rw [Rect.mem_set_unit]
      intro hm
      exact h (hm 0).1
    rw [View.writes_cons, View.read_slice_write_of_not_mem _ _ _ _ (by rwa [Rect.map_emb_univ]), View.writes_nil, harg9.read_unread,
      rowsWith, dif_neg (by omega), dif_pos (by omega : o + r.val < 2056)]

/-- The first block's states are chained by its group products. -/
theorem chained_A :
    Chained (kernelRun0_A.sl.r_12 c arg2 harg2 arg3 harg3 arg4 harg4 arg5 harg5 arg6 harg6 arg7 harg7 arg9 x0 x1 x2 x3 x4 x5) (kernelRun0_A.sl.r_11 c arg2 harg2 arg3 harg3 arg4 harg4 arg5 harg5 arg6 harg6 arg7 harg7 arg9 x0 x1 x2 x3 x4 x5)
      (states (fun _ _ => 0) x0 x1 x2 x3 x4 x5 (fun _ => 0)) (kernelRun0_A.sl.v145 (F := Ideal) c arg10) := by
  have hc : ∀ ch, ((kernelRun0_A.sl.v145 (F := Ideal) c arg10) : FVec Ideal S1x256 .f32) (ix2 0 ch) = (fun _ => 0 : Fin 256 → EReal) ch := fun ch => carry_zero c arg10 ch
  refine chained_congr hc (a := fun ch r => Ideal.exp (laOf (fun _ _ => 0) x0 x1 x2 x3 x4 x5 ch r)) (u := uOf (fun _ _ => 0) x0 x1 x2 x3 x4 x5) (chained_of_gathered (fun ch r => Ideal.exp (laOf (fun _ _ => 0) x0 x1 x2 x3 x4 x5 ch r)) (uOf (fun _ _ => 0) x0 x1 x2 x3 x4 x5)
    (decaysOf (fun _ _ => 0) x0 x1 x2 x3 x4 x5) _ fun ch => ?_)
  simp only [kernelRun0_A.sl.r_12, kernelRun0_A.sl.r_11, kernelRun0_A.sl.r_10, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2]
  unfold laOf uOf
  have e3 : ∀ inb, (View.readAt (Elt Ideal) arg5.view (Rect.unit (s := S256x512) ![0, 0] S256x512.size inb).toLoadRect (harg5.unread x3) : FVec Ideal S256x512 .bf16) = x3 := readWhole arg5 harg5 x3 _
  have e4 : ∀ inb, (View.readAt (Elt Ideal) arg6.view (Rect.unit (s := S1x512) ![0, 0] S1x512.size inb).toLoadRect (harg6.unread x4) : FVec Ideal S1x512 .f32) = x4 := readWhole arg6 harg6 x4 _
  have e5 : ∀ inb, (View.readAt (Elt Ideal) arg7.view (Rect.unit (s := S1x256) ![0, 0] S1x256.size inb).toLoadRect (harg7.unread x5) : FVec Ideal S1x256 .f32) = x5 := readWhole arg7 harg7 x5 _
  rw [e3, e4, e5]
  exact point_gathered x3 x4 x5 (rowsWith (fun _ _ => 0) x0) x1 _ _ _ _ _ _ _ _ _ x2 (fun r ch => input_rows arg2 harg2 x0 _ _ r ch)
    (fun r ch => A_read c arg2 harg2 arg9 x0 7 _ r ch (by omega)) (fun r ch => A_read c arg2 harg2 arg9 x0 6 _ r ch (by omega)) (fun r ch => A_read c arg2 harg2 arg9 x0 5 _ r ch (by omega))
    (fun ch => readRow_apply arg4 harg4 x2 _ ch) (fun ch => readTap_apply arg3 harg3 x1 3 _ ch) (fun ch => readTap_apply arg3 harg3 x1 2 _ ch)
    (fun ch => readTap_apply arg3 harg3 x1 1 _ ch) (fun ch => readTap_apply arg3 harg3 x1 0 _ ch) ch (decays _ _ _ _ _ _)

/-- A later block's states are chained by its group products. -/
theorem chained_B :
    Chained (kernelRun0_B.sl.r_13 c arg2 harg2 arg3 harg3 arg4 harg4 arg5 harg5 arg6 harg6 arg7 harg7 arg9 harg9 x0 x1 x2 x3 x4 x5 xs0) (kernelRun0_B.sl.r_12 c arg2 harg2 arg3 harg3 arg4 harg4 arg5 harg5 arg6 harg6 arg7 harg7 arg9 harg9 x0 x1 x2 x3 x4 x5 xs0)
      (states (fun n ch => if h : n < 2056 then xs0 (ix2 ⟨n, h⟩ ch) else 0) x0 x1 x2 x3 x4 x5 (fun ch => xs1 (ix2 0 ch))) (View.readAt (Elt Ideal) arg10.view (Rect.unit (s := S8x256) ![0, 0] S1x256.size inb_S8x256_S1x256_0_0).toLoadRect (harg10.unread xs1)) := by
  have hc : ∀ ch, ((View.readAt (Elt Ideal) arg10.view (Rect.unit (s := S8x256) ![0, 0] S1x256.size inb_S8x256_S1x256_0_0).toLoadRect (harg10.unread xs1)) : FVec Ideal S1x256 .f32) (ix2 0 ch) = (fun ch => xs1 (ix2 0 ch) : Fin 256 → EReal) ch := fun ch => carry_old arg10 harg10 xs1 ch
  refine chained_congr hc (a := fun ch r => Ideal.exp (laOf (fun n ch => if h : n < 2056 then xs0 (ix2 ⟨n, h⟩ ch) else 0) x0 x1 x2 x3 x4 x5 ch r)) (u := uOf (fun n ch => if h : n < 2056 then xs0 (ix2 ⟨n, h⟩ ch) else 0) x0 x1 x2 x3 x4 x5) (chained_of_gathered (fun ch r => Ideal.exp (laOf (fun n ch => if h : n < 2056 then xs0 (ix2 ⟨n, h⟩ ch) else 0) x0 x1 x2 x3 x4 x5 ch r)) (uOf (fun n ch => if h : n < 2056 then xs0 (ix2 ⟨n, h⟩ ch) else 0) x0 x1 x2 x3 x4 x5)
    (decaysOf (fun n ch => if h : n < 2056 then xs0 (ix2 ⟨n, h⟩ ch) else 0) x0 x1 x2 x3 x4 x5) _ fun ch => ?_)
  simp only [kernelRun0_B.sl.r_13, kernelRun0_B.sl.r_12, kernelRun0_B.sl.r_11, kernelRun0_B.sl.r_10, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2]
  unfold laOf uOf
  have e3 : ∀ inb, (View.readAt (Elt Ideal) arg5.view (Rect.unit (s := S256x512) ![0, 0] S256x512.size inb).toLoadRect (harg5.unread x3) : FVec Ideal S256x512 .bf16) = x3 := readWhole arg5 harg5 x3 _
  have e4 : ∀ inb, (View.readAt (Elt Ideal) arg6.view (Rect.unit (s := S1x512) ![0, 0] S1x512.size inb).toLoadRect (harg6.unread x4) : FVec Ideal S1x512 .f32) = x4 := readWhole arg6 harg6 x4 _
  have e5 : ∀ inb, (View.readAt (Elt Ideal) arg7.view (Rect.unit (s := S1x256) ![0, 0] S1x256.size inb).toLoadRect (harg7.unread x5) : FVec Ideal S1x256 .f32) = x5 := readWhole arg7 harg7 x5 _
  rw [e3, e4, e5]
  exact point_gathered x3 x4 x5 (rowsWith (fun n ch => if h : n < 2056 then xs0 (ix2 ⟨n, h⟩ ch) else 0) x0) x1 _ _ _ _ _ _ _ _ _ x2 (fun r ch => input_rows arg2 harg2 x0 _ _ r ch)
    (fun r ch => B_read c arg2 harg2 arg9 harg9 x0 xs0 7 _ r ch (by omega)) (fun r ch => B_read c arg2 harg2 arg9 harg9 x0 xs0 6 _ r ch (by omega)) (fun r ch => B_read c arg2 harg2 arg9 harg9 x0 xs0 5 _ r ch (by omega))
    (fun ch => readRow_apply arg4 harg4 x2 _ ch) (fun ch => readTap_apply arg3 harg3 x1 3 _ ch) (fun ch => readTap_apply arg3 harg3 x1 2 _ ch)
    (fun ch => readTap_apply arg3 harg3 x1 1 _ ch) (fun ch => readTap_apply arg3 harg3 x1 0 _ ch) ch (decays _ _ _ _ _ _)

end Cert.Lru
-- ==== Proof.LruOut.lean ====
/- The RG-LRU kernel's output block and carried state at a grid point, from the blocks its four doublings leave: the first block of a
   batch starts from zero, a later one from what the block before left. -/
module

public import proofs.«01_k».proof.Proof.LruGroups
public import Idealize.ShloMosaic.Lib.Pointwise
public import Idealize.ShloMosaic.Lib.Pipeline.ValueKit

@[expose] public section
set_option maxRecDepth 65536
noncomputable section
namespace Cert.Lru
open Idealize.ShloMosaic hiding ix1 ix2 ix3 ix4 ix5 eq_ix1 eq_ix2 eq_ix3 eq_ix4 eq_ix5
open Cert.KernelIdeal Cert.KernelIdeal.Gen Idealize.ShloMosaic.TcCoe Idealize.SL.Sem Idealize.ShloMosaic.Tactic
open Idealize.ShloMosaic.ValueIdx

variable (c : Dev nD) (i : grid0.Coords)
  (arg2 : Memref sig .tc .vmem S1x2048x512 .f32) (harg2 : arg2.IsWhole)
  (arg3 : Memref sig .tc .vmem S4x256 .f32) (harg3 : arg3.IsWhole)
  (arg4 : Memref sig .tc .vmem S1x256 .f32) (harg4 : arg4.IsWhole)
  (arg5 : Memref sig .tc .vmem S256x512 .bf16) (harg5 : arg5.IsWhole)
  (arg6 : Memref sig .tc .vmem S1x512 .f32) (harg6 : arg6.IsWhole)
  (arg7 : Memref sig .tc .vmem S1x256 .f32) (harg7 : arg7.IsWhole)
  (arg8 : Memref sig .tc .vmem S1x2048x256 .f32) (harg8 : arg8.IsWhole)
  (arg9 : Memref sig .tc .vmem S2056x256 .f32) (harg9 : arg9.IsWhole)
  (arg10 : Memref sig .tc .vmem S8x256 .f32) (harg10 : arg10.IsWhole)
  (x0 : Vec Ideal S1x2048x512 .f32) (x1 : Vec Ideal S4x256 .f32) (x2 : Vec Ideal S1x256 .f32) (x3 : Vec Ideal S256x512 .bf16) (x4 : Vec Ideal S1x512 .f32) (x5 : Vec Ideal S1x256 .f32)
  (xs0 : Vec Ideal S2056x256 .f32) (xs1 : Vec Ideal S8x256 .f32) (G : FVec Ideal S1x2048x256 .f32) (W : Blk)

set_option maxHeartbeats 4000000 in
/-- The first block: the output block is the states times the gate, once the states are chained by the group products. -/
theorem out_A (hc0 : cond0_0 i)
    (hw : Chained (kernelRun0_A.sl.r_12 c arg2 harg2 arg3 harg3 arg4 harg4 arg5 harg5 arg6 harg6 arg7 harg7 arg9 x0 x1 x2 x3 x4 x5) (kernelRun0_A.sl.r_11 c arg2 harg2 arg3 harg3 arg4 harg4 arg5 harg5 arg6 harg6 arg7 harg7 arg9 x0 x1 x2 x3 x4 x5) W (kernelRun0_A.sl.v145 (F := Ideal) c arg10))
    (hG : ∀ (r : Fin 2048) (ch : Fin 256), G (ix3 0 r ch) = W (ix2 r ch) * kernelRun0_A.sl.r_13 c arg2 harg2 x0 (ix2 r ch)) :
    out0_A_6 c i arg2 harg2 arg3 harg3 arg4 harg4 arg5 harg5 arg6 harg6 arg7 harg7 arg8 harg8 arg9 harg9 arg10 harg10 hc0 x0 x1 x2 x3 x4 x5 = G := by
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1 x2 x3 x4 x5)]
  funext y
  refine (View.canon_apply_of_pieces (Val := Elt Ideal) (e := .f32) G _ ?_ y (cover0_A_6 c i arg2 harg2 arg3 harg3 arg4 harg4 arg5 harg5 arg6 harg6 arg7 harg7 arg8 harg8 arg9 harg9 arg10 harg10 hc0 x0 x1 x2 x3 x4 x5 y))
  unfold kernelRun0_A
  dsimp only
  simp only [kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, k0_pay29, k0_pay30, k0_pay31, k0_pay32] at hw hG ⊢
  generalize k0_pay26 (F := Ideal) _ _ _ _ _ = H at hw ⊢
  generalize k0_pay27 (F := Ideal) _ _ _ _ = A at hw ⊢
  generalize k0_pay28 (F := Ideal) _ = B at hG ⊢
  generalize kernelRun0_A.sl.v145 (F := Ideal) c _ = c0 at hw ⊢
  unfold_payloads
  simp (maxDischargeDepth := 3) only [group_first hw, group_next hw, Nat.reduceAdd, Nat.reduceMod, Nat.reduceLeDiff, List.forall_mem_cons]
  refine ⟨group_store W B G hG _ (by omega) _ _ _ _, ?_⟩
  repeat' apply And.intro
  all_goals first | exact group_store W B G hG _ (by omega) _ _ _ _ | exact fun _ h => absurd h List.not_mem_nil

set_option maxHeartbeats 4000000 in
/-- The first block leaves its last state in the carried row. -/
theorem carry_A (hc0 : cond0_0 i)
    (hw : Chained (kernelRun0_A.sl.r_12 c arg2 harg2 arg3 harg3 arg4 harg4 arg5 harg5 arg6 harg6 arg7 harg7 arg9 x0 x1 x2 x3 x4 x5) (kernelRun0_A.sl.r_11 c arg2 harg2 arg3 harg3 arg4 harg4 arg5 harg5 arg6 harg6 arg7 harg7 arg9 x0 x1 x2 x3 x4 x5) W (kernelRun0_A.sl.v145 (F := Ideal) c arg10)) (ch : Fin 256) :
    sout0_A_1 c i arg2 harg2 arg3 harg3 arg4 harg4 arg5 harg5 arg6 harg6 arg7 harg7 arg8 harg8 arg9 harg9 arg10 harg10 hc0 x0 x1 x2 x3 x4 x5 (ix2 0 ch) = W (ix2 2047 ch) := by
  unfold sout0_A_1
  rw [View.read_writes_junk_eq_canon]
  unfold kernelRun0_A
  dsimp only
  rw [View.canon_cons_unit_lit _ _ _ (by decide)]
  unfold k0_pay4
  rw [shapeCast_self, shapeCast_self]
  rw [show ∀ (v : FVec Ideal S1x256 .f32) (h : S1x256.Broadcasts S8x256), broadcastTo S8x256 v h (ix2 0 ch) = v (ix2 0 ch) from
    fun v h => broadcastTo_apply _ _ _ _ fun a => match a with | ⟨0, _⟩ => rfl | ⟨1, _⟩ => rfl, lastRow_apply]
  simp only [kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, k0_pay29, k0_pay30, k0_pay31, k0_pay32] at hw ⊢
  generalize k0_pay26 (F := Ideal) _ _ _ _ _ = H at hw ⊢
  generalize k0_pay27 (F := Ideal) _ _ _ _ = A at hw ⊢
  generalize kernelRun0_A.sl.v145 (F := Ideal) c _ = c0 at hw ⊢
  unfold_payloads
  simp (maxDischargeDepth := 3) only [group_first hw, group_next hw, Nat.reduceAdd, Nat.reduceMod, Nat.reduceLeDiff]
  exact rows_apply W 2032 (by omega) _ 15 ch

set_option maxHeartbeats 4000000 in
/-- A later block: the output block is the states times the gate, once the states are chained by the group products. -/
theorem out_B (hc0 : ¬cond0_0 i)
    (hw : Chained (kernelRun0_B.sl.r_13 c arg2 harg2 arg3 harg3 arg4 harg4 arg5 harg5 arg6 harg6 arg7 harg7 arg9 harg9 x0 x1 x2 x3 x4 x5 xs0) (kernelRun0_B.sl.r_12 c arg2 harg2 arg3 harg3 arg4 harg4 arg5 harg5 arg6 harg6 arg7 harg7 arg9 harg9 x0 x1 x2 x3 x4 x5 xs0) W (View.readAt (Elt Ideal) arg10.view (Rect.unit (s := S8x256) ![0, 0] S1x256.size inb_S8x256_S1x256_0_0).toLoadRect (harg10.unread xs1)))
    (hG : ∀ (r : Fin 2048) (ch : Fin 256), G (ix3 0 r ch) = W (ix2 r ch) * kernelRun0_B.sl.r_14 c arg2 harg2 x0 (ix2 r ch)) :
    out0_B_6 c i arg2 harg2 arg3 harg3 arg4 harg4 arg5 harg5 arg6 harg6 arg7 harg7 arg8 harg8 arg9 harg9 arg10 harg10 hc0 x0 x1 x2 x3 x4 x5 xs0 xs1 = G := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 x3 x4 x5 xs0 xs1)]
  funext y
  refine (View.canon_apply_of_pieces (Val := Elt Ideal) (e := .f32) G _ ?_ y (cover0_B_6 c i arg2 harg2 arg3 harg3 arg4 harg4 arg5 harg5 arg6 harg6 arg7 harg7 arg8 harg8 arg9 harg9 arg10 harg10 hc0 x0 x1 x2 x3 x4 x5 xs0 xs1 y))
  unfold kernelRun0_B
  dsimp only
  simp only [kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, k0_pay29, k0_pay30, k0_pay31, k0_pay32] at hw hG ⊢
  generalize k0_pay26 (F := Ideal) _ _ _ _ _ = H at hw ⊢
  generalize k0_pay27 (F := Ideal) _ _ _ _ = A at hw ⊢
  generalize k0_pay28 (F := Ideal) _ = B at hG ⊢
  generalize (View.readAt (Elt Ideal) arg10.view (Rect.unit (s := S8x256) ![0, 0] S1x256.size inb_S8x256_S1x256_0_0).toLoadRect (harg10.unread xs1)) = c0 at hw ⊢
  unfold_payloads
  simp (maxDischargeDepth := 3) only [group_first hw, group_next hw, Nat.reduceAdd, Nat.reduceMod, Nat.reduceLeDiff, List.forall_mem_cons]
  refine ⟨group_store W B G hG _ (by omega) _ _ _ _, ?_⟩
  repeat' apply And.intro
  all_goals first | exact group_store W B G hG _ (by omega) _ _ _ _ | exact fun _ h => absurd h List.not_mem_nil

end Cert.Lru
-- ==== Proof.LruBlock.lean ====
/- What the RG-LRU kernel leaves at a grid point: its output block is the states times the gate's GELU, and the first block of a batch
   hands its last 8 rows and its last state to the second. -/
module

public import proofs.«01_k».proof.Proof.LruWords
public import proofs.«01_k».proof.Proof.LruOut

@[expose] public section
set_option maxRecDepth 65536
noncomputable section
namespace Cert.Lru
open Cert.KernelIdeal Cert.KernelIdeal.Gen Idealize.ShloMosaic.TcCoe Idealize.SL.Sem Idealize.ShloMosaic.Tactic
open Idealize.ShloMosaic hiding ix1 ix2 ix3 ix4 ix5 eq_ix1 eq_ix2 eq_ix3 eq_ix4 eq_ix5
open Idealize.ShloMosaic.ValueIdx

/-- The rows before a later block, as the block before it left them. -/
def oldOf (xs0 : FVec Ideal S2056x256 .f32) (n : ℕ) (ch : Fin 256) : EReal := if h : n < 2056 then xs0 (ix2 ⟨n, h⟩ ch) else 0

/-- An output block: the states times the gate's GELU. -/
def outBlock (old : ℕ → Fin 256 → EReal) (x0 : FVec Ideal S1x2048x512 .f32) (x1 : FVec Ideal S4x256 .f32) (x2 : FVec Ideal S1x256 .f32)
    (x3 : FVec Ideal S256x512 .bf16) (x4 : FVec Ideal S1x512 .f32) (x5 : FVec Ideal S1x256 .f32) (c : Fin 256 → EReal) :
    FVec Ideal S1x2048x256 .f32 := fun j =>
  states old x0 x1 x2 x3 x4 x5 c (ix2 (j 1) (j 2)) * gelu (x0 (ix3 0 (j 1) ⟨256 + (j 2).val, by have : (j 2).val < 256 := (j 2).isLt; omega⟩))

variable (c : Dev nD) (i : grid0.Coords)
  (arg2 : Memref sig .tc .vmem S1x2048x512 .f32) (harg2 : arg2.IsWhole)
  (arg3 : Memref sig .tc .vmem S4x256 .f32) (harg3 : arg3.IsWhole)
  (arg4 : Memref sig .tc .vmem S1x256 .f32) (harg4 : arg4.IsWhole)
  (arg5 : Memref sig .tc .vmem S256x512 .bf16) (harg5 : arg5.IsWhole)
  (arg6 : Memref sig .tc .vmem S1x512 .f32) (harg6 : arg6.IsWhole)
  (arg7 : Memref sig .tc .vmem S1x256 .f32) (harg7 : arg7.IsWhole)
  (arg8 : Memref sig .tc .vmem S1x2048x256 .f32) (harg8 : arg8.IsWhole)
  (arg9 : Memref sig .tc .vmem S2056x256 .f32) (harg9 : arg9.IsWhole)
  (arg10 : Memref sig .tc .vmem S8x256 .f32) (harg10 : arg10.IsWhole)
  (x0 : Vec Ideal S1x2048x512 .f32) (x1 : Vec Ideal S4x256 .f32) (x2 : Vec Ideal S1x256 .f32) (x3 : Vec Ideal S256x512 .bf16) (x4 : Vec Ideal S1x512 .f32) (x5 : Vec Ideal S1x256 .f32)
  (xs0 : Vec Ideal S2056x256 .f32) (xs1 : Vec Ideal S8x256 .f32)

/-- The first block's output. -/
theorem block_A (hc0 : cond0_0 i) :
    out0_A_6 c i arg2 harg2 arg3 harg3 arg4 harg4 arg5 harg5 arg6 harg6 arg7 harg7 arg8 harg8 arg9 harg9 arg10 harg10 hc0 x0 x1 x2 x3 x4 x5 = outBlock (fun _ _ => 0) x0 x1 x2 x3 x4 x5 (fun _ => 0) := by
  refine out_A c i arg2 harg2 arg3 harg3 arg4 harg4 arg5 harg5 arg6 harg6 arg7 harg7 arg8 harg8 arg9 harg9 arg10 harg10 x0 x1 x2 x3 x4 x5 _ (states (fun _ _ => 0) x0 x1 x2 x3 x4 x5 (fun _ => 0)) hc0 (chained_A c arg2 harg2 arg3 harg3 arg4 harg4 arg5 harg5 arg6 harg6 arg7 harg7 arg9 arg10 x0 x1 x2 x3 x4 x5) fun r ch => ?_
  unfold kernelRun0_A.sl.r_13 kernelRun0_A.sl.r_1
  rw [gelu_apply, rowsOf_apply', gate_rows arg2 harg2 x0]
  rfl

/-- A later block's output. -/
theorem block_B (hc0 : ¬cond0_0 i) :
    out0_B_6 c i arg2 harg2 arg3 harg3 arg4 harg4 arg5 harg5 arg6 harg6 arg7 harg7 arg8 harg8 arg9 harg9 arg10 harg10 hc0 x0 x1 x2 x3 x4 x5 xs0 xs1 = outBlock (oldOf xs0) x0 x1 x2 x3 x4 x5 (fun ch => xs1 (ix2 0 ch)) := by
  refine out_B c i arg2 harg2 arg3 harg3 arg4 harg4 arg5 harg5 arg6 harg6 arg7 harg7 arg8 harg8 arg9 harg9 arg10 harg10 x0 x1 x2 x3 x4 x5 xs0 xs1 _ (states (oldOf xs0) x0 x1 x2 x3 x4 x5 (fun ch => xs1 (ix2 0 ch))) hc0 (chained_B c arg2 harg2 arg3 harg3 arg4 harg4 arg5 harg5 arg6 harg6 arg7 harg7 arg9 harg9 arg10 harg10 x0 x1 x2 x3 x4 x5 xs0 xs1) fun r ch => ?_
  unfold kernelRun0_B.sl.r_14 kernelRun0_B.sl.r_1
  rw [gelu_apply, rowsOf_apply', gate_rows arg2 harg2 x0]
  rfl

/-- The first block hands its last state on. -/
theorem last_A (hc0 : cond0_0 i) (ch : Fin 256) :
    sout0_A_1 c i arg2 harg2 arg3 harg3 arg4 harg4 arg5 harg5 arg6 harg6 arg7 harg7 arg8 harg8 arg9 harg9 arg10 harg10 hc0 x0 x1 x2 x3 x4 x5 (ix2 0 ch) = states (fun _ _ => 0) x0 x1 x2 x3 x4 x5 (fun _ => 0) (ix2 2047 ch) :=
  carry_A c i arg2 harg2 arg3 harg3 arg4 harg4 arg5 harg5 arg6 harg6 arg7 harg7 arg8 harg8 arg9 harg9 arg10 harg10 x0 x1 x2 x3 x4 x5 (states (fun _ _ => 0) x0 x1 x2 x3 x4 x5 (fun _ => 0)) hc0 (chained_A c arg2 harg2 arg3 harg3 arg4 harg4 arg5 harg5 arg6 harg6 arg7 harg7 arg9 arg10 x0 x1 x2 x3 x4 x5) ch

/-- The first block hands its last 8 rows on. -/
theorem kept_A (hc0 : cond0_0 i) (q : Fin 8) (ch : Fin 256) :
    sout0_A_0 c i arg2 harg2 arg3 harg3 arg4 harg4 arg5 harg5 arg6 harg6 arg7 harg7 arg8 harg8 arg9 harg9 arg10 harg10 hc0 x0 x1 x2 x3 x4 x5 (ix2 ⟨q, by omega⟩ ch) = x0 (ix3 0 ⟨2040 + q, by omega⟩ ⟨ch, by omega⟩) := by
  unfold sout0_A_0
  rw [View.read_writes_junk_eq_canon]
  unfold kernelRun0_A
  dsimp only
  have e2 : (ix2 (⟨q, by omega⟩ : Fin 2056) ch : S2056x256.Idx) = (Rect.unit (s := S2056x256) ![0, 0] S8x256.size inb_S2056x256_S8x256_0_0).emb (ix2 q ch) := by
    refine funext fun a => Fin.ext ?_
    rw [ValueKit.rect_emb_unit_val]
    match a with
    | ⟨0, _⟩ => exact (Nat.zero_add _).symm
    | ⟨1, _⟩ => exact (Nat.zero_add _).symm
  rw [e2, View.canon_cons_emb]
  unfold k0_pay13 kernelRun0_A.sl.r
  rw [shapeCast_self]
  rw [extractStridedSlice_apply _ _ _ _ (ix2 ⟨2040 + q, by omega⟩ ch) fun a => match a with | ⟨0, _⟩ => by simp [ix2] | ⟨1, _⟩ => by simp [ix2]]
  rw [rowsOf_apply, input_rows arg2 harg2 x0 (fun _ _ => 0), rowsWith, dif_pos (by constructor <;> simp; omega)]
  exact congrArg x0 (congrArg (fun n => ix3 0 n _) (Fin.ext (by simp)))

end Cert.Lru
-- ==== Proof.LruWeights.lean ====
/- The gate weights and biases the RG-LRU kernel is launched with: the two gates' per-block matrices laid out block-diagonally side by
   side, and their biases side by side. -/
module

public import proofs.«01_k».proof.Proof.Gen.KernelIdeal.Value
public import Idealize.ShloMosaic.Lib.Pointwise

@[expose] public section
set_option maxRecDepth 65536
noncomputable section
namespace Cert.Lru
open Cert.KernelIdeal Cert.KernelIdeal.Gen Idealize.ShloMosaic.TcCoe Idealize.SL.Sem Idealize.ShloMosaic.Tactic
open Idealize.ShloMosaic hiding ix1 ix2 ix3 ix4 ix5 eq_ix1 eq_ix2 eq_ix3 eq_ix4 eq_ix5
open Idealize.ShloMosaic.ValueIdx

variable (m : (ℓ : Loc nD τ sig) → Buf (Elt Ideal) ℓ) (c : Dev nD)

/-- The identity matrix of the four blocks. -/
def eye : FVec Ideal S4x4 .f32 :=
  uitofp FTy.f32 (cmpi CmpIPredicate.eq (addi (iotaInDim S4x4 32 0) (broadcastInDim S4x4 ![] bcast_S_S4x4 (constantI S_ 32 0#32))) (iotaInDim S4x4 32 1))

theorem eye_apply (a b : Fin 4) : eye (ix2 a b) = if a = b then 1 else 0 := by
  have h : (cmpi CmpIPredicate.eq (addi (iotaInDim S4x4 32 0) (broadcastInDim S4x4 ![] bcast_S_S4x4 (constantI S_ 32 0#32))) (iotaInDim S4x4 32 1) : IVec S4x4 1) (ix2 a b)
      = if a = b then 1#1 else 0#1 := by
    revert a b; decide
  unfold eye
  show FloatOps.uitofp FTy.f32 _ = _
  rw [h]
  split
  · show ((((1#1 : BitVec 1).toNat : ℝ)) : EReal) = 1; simp
  · show ((((0#1 : BitVec 1).toNat : ℝ)) : EReal) = 0; simp

/-- A gate's four matrices laid out block-diagonally. -/
def blockDiag (w : FVec Ideal S4x64x64 .f32) : FVec Ideal S256x256 .f32 :=
  shapeCast S256x256 (mulf
    (broadcastInDim S4x64x4x64 ![0, 1, 2, 3] bcast_S4x1x4x1_S4x64x4x64_0_1_2_3 (broadcastInDim S4x1x4x1 ![0, 2] bcast_S4x4_S4x1x4x1_0_2 eye))
    (broadcastInDim S4x64x4x64 ![0, 1, 2, 3] bcast_S4x64x1x64_S4x64x4x64_0_1_2_3 (broadcastInDim S4x64x1x64 ![0, 1, 3] bcast_S4x64x64_S4x64x1x64_0_1_3 w)))
    shapeCasts_S4x64x4x64_S256x256

theorem blockDiag_apply (w : FVec Ideal S4x64x64 .f32) (a b : Fin 4) (i o : Fin 64) :
    blockDiag w (ix2 ⟨64 * a + i, by omega⟩ ⟨64 * b + o, by omega⟩) = (if a = b then 1 else 0) * w (ix3 a i o) := by
  unfold blockDiag
  rw [shapeCast_apply _ _ _ (ix4 a i b o) (by rw [Shape.rowMajor_val_two, Shape.rowMajor_val_four]; show _ = ((64 * a.val + i.val) * 256 + (64 * b.val + o.val)); show ((a.val * 64 + i.val) * 4 + b.val) * 64 + o.val = _; omega), ValueIdx.mulf_apply]
  rw [broadcastInDim_apply _ _ _ _ (ix4 a 0 b 0) fun q => match q with | ⟨0, _⟩ => rfl | ⟨1, _⟩ => rfl | ⟨2, _⟩ => rfl | ⟨3, _⟩ => rfl]
  rw [broadcastInDim_apply _ _ _ _ (ix2 a b) fun q => match q with | ⟨0, _⟩ => rfl | ⟨1, _⟩ => rfl]
  rw [broadcastInDim_apply _ _ _ _ (ix4 a i 0 o) fun q => match q with | ⟨0, _⟩ => rfl | ⟨1, _⟩ => rfl | ⟨2, _⟩ => rfl | ⟨3, _⟩ => rfl]
  rw [broadcastInDim_apply _ _ _ _ (ix3 a i o) fun q => match q with | ⟨0, _⟩ => rfl | ⟨1, _⟩ => rfl | ⟨2, _⟩ => rfl]
  rw [eye_apply]

/-- Both gates' weights side by side. -/
def gateWeights (wr wi : FVec Ideal S4x64x64 .f32) : FVec Ideal S256x512 .bf16 :=
  concatenate S256x512 1 [⟨S256x256, blockDiag wr⟩, ⟨S256x256, blockDiag wi⟩] concatenates_S256x256_S256x256_S256x512_d1

theorem gateWeights_left (wr wi : FVec Ideal S4x64x64 .f32) (k j : Fin 256) :
    gateWeights wr wi (ix2 k ⟨j, by omega⟩) = blockDiag wr (ix2 k j) :=
  concatenate_pair_apply_left (t := S256x512) (s₁ := S256x256) (s₂ := S256x256) 1 (blockDiag wr) (blockDiag wi) concatenates_S256x256_S256x256_S256x512_d1 (ix2 k ⟨j, by omega⟩) rfl (ix2 k j) fun q => match q with | ⟨0, _⟩ => rfl | ⟨1, _⟩ => rfl

theorem gateWeights_right (wr wi : FVec Ideal S4x64x64 .f32) (k j : Fin 256) :
    gateWeights wr wi (ix2 k ⟨256 + j, by omega⟩) = blockDiag wi (ix2 k j) :=
  concatenate_pair_apply_right (t := S256x512) (s₁ := S256x256) (s₂ := S256x256) 1 (blockDiag wr) (blockDiag wi) concatenates_S256x256_S256x256_S256x512_d1 (ix2 k ⟨256 + j, by omega⟩) rfl rfl (ix2 k j) (fun q hq => match q with | ⟨0, _⟩ => rfl | ⟨1, _⟩ => absurd rfl hq) (Nat.add_comm _ _)

/-- A vector of 256 channels as a row. -/
def rowOf (v : FVec Ideal S256 .f32) : FVec Ideal S1x256 .f32 := shapeCast S1x256 v shapeCasts_S256_S1x256

theorem rowOf_apply (v : FVec Ideal S256 .f32) (ch : Fin 256) : rowOf v (ix2 0 ch) = v (ix1 ch) :=
  shapeCast_apply _ _ _ (ix1 ch) (by rw [Shape.rowMajor_val_two, Shape.rowMajor_val_one]; simp)

/-- Both gates' biases side by side. -/
def gateBias (br bi : FVec Ideal S256 .f32) : FVec Ideal S1x512 .f32 :=
  concatenate S1x512 1 [⟨S1x256, rowOf br⟩, ⟨S1x256, rowOf bi⟩] concatenates_S1x256_S1x256_S1x512_d1

theorem gateBias_left (br bi : FVec Ideal S256 .f32) (j : Fin 256) : gateBias br bi (ix2 0 ⟨j, by omega⟩) = br (ix1 j) :=
  (concatenate_pair_apply_left (t := S1x512) (s₁ := S1x256) (s₂ := S1x256) 1 (rowOf br) (rowOf bi) concatenates_S1x256_S1x256_S1x512_d1 (ix2 0 ⟨j, by omega⟩) rfl (ix2 0 j) fun q => match q with | ⟨0, _⟩ => rfl | ⟨1, _⟩ => rfl).trans (rowOf_apply br j)

theorem gateBias_right (br bi : FVec Ideal S256 .f32) (j : Fin 256) : gateBias br bi (ix2 0 ⟨256 + j, by omega⟩) = bi (ix1 j) :=
  (concatenate_pair_apply_right (t := S1x512) (s₁ := S1x256) (s₂ := S1x256) 1 (rowOf br) (rowOf bi) concatenates_S1x256_S1x256_S1x512_d1 (ix2 0 ⟨256 + j, by omega⟩) rfl rfl (ix2 0 j) (fun q hq => match q with | ⟨0, _⟩ => rfl | ⟨1, _⟩ => absurd rfl hq) (Nat.add_comm _ _)).trans (rowOf_apply bi j)

/-! ## The buffers the host fills before the launch -/

theorem V_convBias : V m c main_v0 = rowOf (m (c, Proc.tc.devRef main_arg2)) := by
  show StableHlo.after hostOps0 (fun b => m (c, b)) (Proc.devRef .tc main_v0) = _
  after_results
  rfl
theorem V_gateWeights : V m c main_v26 = gateWeights (m (c, Proc.tc.devRef main_arg3)) (m (c, Proc.tc.devRef main_arg5)) := by
  show StableHlo.after hostOps0 (fun b => m (c, b)) (Proc.devRef .tc main_v26) = _
  after_results
  rfl
theorem V_gateBias : V m c main_v29 = gateBias (m (c, Proc.tc.devRef main_arg4)) (m (c, Proc.tc.devRef main_arg6)) := by
  show StableHlo.after hostOps0 (fun b => m (c, b)) (Proc.devRef .tc main_v29) = _
  after_results
  rfl
theorem V_lam : V m c main_v30 = rowOf (m (c, Proc.tc.devRef main_arg7)) := by
  show StableHlo.after hostOps0 (fun b => m (c, b)) (Proc.devRef .tc main_v30) = _
  after_results
  rfl

/-! ## The windows' blocks -/

theorem idx_facts : ∀ t : Fin cfg0.N, win0_0.index t (0 : Fin 3) = t.val / 2 ∧ win0_0.index t (1 : Fin 3) = t.val % 2 ∧ win0_0.index t (2 : Fin 3) = 0 :=
  (by decide +kernel : ∀ t : Fin grid0.N, _)
theorem idx_zero : ∀ t : Fin cfg0.N, (∀ a, win0_1.index t a = 0) ∧ (∀ a, win0_2.index t a = 0) ∧ (∀ a, win0_3.index t a = 0)
    ∧ (∀ a, win0_4.index t a = 0) ∧ (∀ a, win0_5.index t a = 0) :=
  (by decide +kernel : ∀ t : Fin grid0.N, _)

theorem iblk0_apply (t : Fin cfg0.N) (r : Fin 2048) (j : Fin 512) :
    (iblk m c 0 t : FVec Ideal S1x2048x512 .f32) (ix3 0 r j)
      = (m (c, Proc.tc.devRef main_arg0) : FVec Ideal S8x4096x512 .f32)
        (ix3 ⟨t.val / 2, by have := lt_of_lt_of_eq t.isLt N_0; omega⟩ ⟨2048 * (t.val % 2) + r, by omega⟩ j) := by
  obtain ⟨e0, e1, e2⟩ := idx_facts t
  show V m c main_arg0 (((cfg0.win 0).blk t).view.emb (ix3 0 r j)) = _
  rw [V_main_arg0]
  refine congrArg (m (c, Proc.tc.devRef main_arg0) : FVec Ideal S8x4096x512 .f32) (funext fun a => Fin.ext ?_)
  match a with
  | ⟨0, _⟩ => show win0_0.index t (0 : Fin 3) * 1 + 1 * 0 = t.val / 2; omega
  | ⟨1, _⟩ => show win0_0.index t (1 : Fin 3) * 2048 + 1 * r.val = 2048 * (t.val % 2) + r; omega
  | ⟨2, _⟩ => show win0_0.index t (2 : Fin 3) * 512 + 1 * j.val = j; omega

theorem iblk1_eq (t : Fin cfg0.N) : (iblk m c 1 t : FVec Ideal S4x256 .f32) = m (c, Proc.tc.devRef main_arg1) := by
  funext j
  show V m c main_arg1 (((cfg0.win 1).blk t).view.emb j) = _
  rw [V_main_arg1]
  refine congrArg (m (c, Proc.tc.devRef main_arg1) : FVec Ideal S4x256 .f32) (funext fun a => Fin.ext ?_)
  have e := (idx_zero t).1 a
  show win0_1.index t a * _ + 1 * (j a).val = (j a).val
  rw [e]; omega

theorem iblk2_eq (t : Fin cfg0.N) : (iblk m c 2 t : FVec Ideal S1x256 .f32) = rowOf (m (c, Proc.tc.devRef main_arg2)) := by
  rw [← V_convBias]
  funext j
  refine congrArg (V m c main_v0 : FVec Ideal S1x256 .f32) (funext fun a => Fin.ext ?_)
  have e := (idx_zero t).2.1 a
  show win0_2.index t a * _ + 1 * (j a).val = (j a).val
  rw [e]; omega

theorem iblk3_eq (t : Fin cfg0.N) : (iblk m c 3 t : FVec Ideal S256x512 .bf16) = gateWeights (m (c, Proc.tc.devRef main_arg3)) (m (c, Proc.tc.devRef main_arg5)) := by
  rw [← V_gateWeights]
  funext j
  refine congrArg (V m c main_v26 : FVec Ideal S256x512 .bf16) (funext fun a => Fin.ext ?_)
  have e := (idx_zero t).2.2.1 a
  show win0_3.index t a * _ + 1 * (j a).val = (j a).val
  rw [e]; omega

theorem iblk4_eq (t : Fin cfg0.N) : (iblk m c 4 t : FVec Ideal S1x512 .f32) = gateBias (m (c, Proc.tc.devRef main_arg4)) (m (c, Proc.tc.devRef main_arg6)) := by
  rw [← V_gateBias]
  funext j
  refine congrArg (V m c main_v29 : FVec Ideal S1x512 .f32) (funext fun a => Fin.ext ?_)
  have e := (idx_zero t).2.2.2.1 a
  show win0_4.index t a * _ + 1 * (j a).val = (j a).val
  rw [e]; omega

theorem iblk5_eq (t : Fin cfg0.N) : (iblk m c 5 t : FVec Ideal S1x256 .f32) = rowOf (m (c, Proc.tc.devRef main_arg7)) := by
  rw [← V_lam]
  funext j
  refine congrArg (V m c main_v30 : FVec Ideal S1x256 .f32) (funext fun a => Fin.ext ?_)
  have e := (idx_zero t).2.2.2.2 a
  show win0_5.index t a * _ + 1 * (j a).val = (j a).val
  rw [e]; omega

end Cert.Lru
-- ==== Proof.LruArray.lean ====
/- The RG-LRU kernel's result array: each batch's two blocks joined into one recurrence over the whole sequence. -/
module

public import proofs.«01_k».proof.Proof.LruBlock
public import proofs.«01_k».proof.Proof.LruWeights

@[expose] public section
set_option maxRecDepth 65536
noncomputable section
namespace Cert.Lru
open Cert.KernelIdeal Cert.KernelIdeal.Gen Idealize.ShloMosaic.TcCoe Idealize.SL.Sem Idealize.ShloMosaic.Tactic
open Idealize.ShloMosaic hiding ix1 ix2 ix3 ix4 ix5 eq_ix1 eq_ix2 eq_ix3 eq_ix4 eq_ix5
open Idealize.ShloMosaic.ValueIdx

/-- A batch's recurrent half with 8 zero rows in front. -/
def rowsG (z : FVec Ideal S8x4096x512 .f32) (b : Fin 8) (n : ℕ) (ch : Fin 256) : EReal :=
  if h : 8 ≤ n ∧ n < 4104 then z (ix3 b ⟨n - 8, by omega⟩ ⟨ch, by omega⟩) else 0

/-- The mixer's result: the recurrence over the batch's rows, times the gate's GELU. -/
def mixed (z : FVec Ideal S8x4096x512 .f32) (cw : FVec Ideal S4x256 .f32) (cb : FVec Ideal S1x256 .f32) (wg : FVec Ideal S256x512 .bf16)
    (bg : FVec Ideal S1x512 .f32) (lam : FVec Ideal S1x256 .f32) (b : Fin 8) (t : Fin 4096) (ch : Fin 256) : EReal :=
  st (fun r => Ideal.exp (laAt (convAt (rowsG z b) cw cb r) wg bg lam ch)) (fun r => uAt (convAt (rowsG z b) cw cb r) wg bg lam ch) 0 (t + 1)
    * gelu (z (ix3 b t ⟨256 + ch, by omega⟩))

theorem st_congr {a a' u u' : ℕ → EReal} {c : EReal} {n : ℕ} (h : ∀ k < n, a k = a' k ∧ u k = u' k) : st a u c n = st a' u' c n := by
  induction n with
  | zero => rfl
  | succ n ih =>
    show a n * st a u c n + u n = a' n * st a' u' c n + u' n
    rw [ih fun k hk => h k (by omega), (h n (by omega)).1, (h n (by omega)).2]

theorem convAt_congr {x x' : ℕ → Fin 256 → EReal} (w : FVec Ideal S4x256 .f32) (cb : FVec Ideal S1x256 .f32) {r r' : ℕ}
    (h : ∀ k, 5 ≤ k → k ≤ 8 → x (k + r) = x' (k + r')) : convAt x w cb r = convAt x' w cb r' := by
  funext ch
  unfold convAt
  rw [h 8 (by omega) (by omega), h 7 (by omega) (by omega), h 6 (by omega) (by omega), h 5 (by omega) (by omega)]

variable (m : (ℓ : Loc nD τ sig) → Buf (Elt Ideal) ℓ) (c : Dev nD)

/-- The mixer's result of the launched buffers. -/
abbrev mixedOf (b : Fin 8) (t : Fin 4096) (ch : Fin 256) : EReal :=
  mixed (m (c, Proc.tc.devRef main_arg0)) (m (c, Proc.tc.devRef main_arg1)) (rowOf (m (c, Proc.tc.devRef main_arg2)))
    (gateWeights (m (c, Proc.tc.devRef main_arg3)) (m (c, Proc.tc.devRef main_arg5)))
    (gateBias (m (c, Proc.tc.devRef main_arg4)) (m (c, Proc.tc.devRef main_arg6))) (rowOf (m (c, Proc.tc.devRef main_arg7))) b t ch

theorem G6_apply (b : Fin 8) (t : Fin 4096) (ch : Fin 256) (n : ℕ) (hn : n < cfg0.N) (e : n = 2 * b + t / 2048) :
    Value.G6 m c (ix3 b t ch) = ((outsAt0 m c n hn).1 : FVec Ideal S1x2048x256 .f32) (ix3 0 ⟨t % 2048, by omega⟩ ch) := by
  have hp : Value.pt6Of (ix3 b t ch) = n := by
    show 2 * (b.val / 1 - 0) + 1 * (t.val / 2048 - 0) + 1 * (ch.val / 256 - 0) = n
    omega
  have hl : Value.loc6Of (ix3 b t ch) = ix3 0 ⟨t % 2048, by omega⟩ ch := by
    refine funext fun a => Fin.ext ?_
    match a with
    | ⟨0, _⟩ => show b.val % 1 = 0; omega
    | ⟨1, _⟩ => rfl
    | ⟨2, _⟩ => show ch.val % 256 = ch.val; omega
  unfold Value.G6
  rw [dif_pos (by rw [hp]; exact hn), hl, Value.outsAt0_sweep, Value.fold0_congr m c _ _ _ _ hp]

/-- The rows a batch's first block reads are the batch's. -/
theorem rows_first (b : Fin 8) (t : Fin cfg0.N) (h : t.val = 2 * b) (n : ℕ) (hn : n < 2056) :
    rowsWith (fun _ _ => 0) (iblk m c 0 t) n = rowsG (m (c, Proc.tc.devRef main_arg0)) b n := by
  funext ch
  unfold rowsWith rowsG
  by_cases h8 : 8 ≤ n
  · rw [dif_pos ⟨h8, hn⟩, dif_pos ⟨h8, by omega⟩, iblk0_apply]
    refine congrArg (m (c, Proc.tc.devRef main_arg0) : FVec Ideal S8x4096x512 .f32) (funext fun a => Fin.ext ?_)
    match a with
    | ⟨0, _⟩ => show t.val / 2 = b.val; omega
    | ⟨1, _⟩ => show 2048 * (t.val % 2) + (n - 8) = n - 8; omega
    | ⟨2, _⟩ => rfl
  · rw [dif_neg (by omega), dif_neg (by omega)]

/-- The rows a batch's second block reads are the batch's, 2048 further on. -/
theorem rows_second (b : Fin 8) (t : Fin cfg0.N) (h : t.val = 2 * b + 1) (xs0 : FVec Ideal S2056x256 .f32)
    (hx : ∀ (q : Fin 8) (ch : Fin 256), xs0 (ix2 ⟨q, by omega⟩ ch) = (m (c, Proc.tc.devRef main_arg0) : FVec Ideal S8x4096x512 .f32) (ix3 b ⟨2040 + q, by omega⟩ ⟨ch, by omega⟩))
    (n : ℕ) (hn : n < 2056) :
    rowsWith (oldOf xs0) (iblk m c 0 t) n = rowsG (m (c, Proc.tc.devRef main_arg0)) b (2048 + n) := by
  funext ch
  unfold rowsWith rowsG
  rw [dif_pos (⟨by omega, by omega⟩ : 8 ≤ 2048 + n ∧ 2048 + n < 4104)]
  by_cases h8 : 8 ≤ n
  · rw [dif_pos ⟨h8, hn⟩, iblk0_apply]
    refine congrArg (m (c, Proc.tc.devRef main_arg0) : FVec Ideal S8x4096x512 .f32) (funext fun a => Fin.ext ?_)
    match a with
    | ⟨0, _⟩ => show t.val / 2 = b.val; omega
    | ⟨1, _⟩ => show 2048 * (t.val % 2) + (n - 8) = 2048 + n - 8; omega
    | ⟨2, _⟩ => rfl
  · rw [dif_neg (by omega)]
    unfold oldOf
    rw [dif_pos hn]
    refine (hx ⟨n, by omega⟩ ch).trans ?_
    refine congrArg (m (c, Proc.tc.devRef main_arg0) : FVec Ideal S8x4096x512 .f32) (funext fun a => Fin.ext ?_)
    match a with
    | ⟨0, _⟩ => rfl
    | ⟨1, _⟩ => show 2040 + n = 2048 + n - 8; omega
    | ⟨2, _⟩ => rfl

/-- The first block's states are the batch's recurrence from zero. -/
theorem states_first (b : Fin 8) (t : Fin cfg0.N) (h : t.val = 2 * b) (w : FVec Ideal S4x256 .f32) (cb : FVec Ideal S1x256 .f32)
    (wg : FVec Ideal S256x512 .bf16) (bg : FVec Ideal S1x512 .f32) (lam : FVec Ideal S1x256 .f32) (r : Fin 2048) (ch : Fin 256) :
    states (fun _ _ => 0) (iblk m c 0 t) w cb wg bg lam (fun _ => 0) (ix2 r ch)
      = st (fun r => Ideal.exp (laAt (convAt (rowsG (m (c, Proc.tc.devRef main_arg0)) b) w cb r) wg bg lam ch))
          (fun r => uAt (convAt (rowsG (m (c, Proc.tc.devRef main_arg0)) b) w cb r) wg bg lam ch) 0 (r + 1) := by
  refine st_congr fun k hk => ?_
  have hk' : k < 2048 := by have : k < r.val + 1 := hk; omega
  have e : convAt (rowsWith (fun _ _ => 0) (iblk m c 0 t)) w cb k = convAt (rowsG (m (c, Proc.tc.devRef main_arg0)) b) w cb k :=
    convAt_congr _ _ fun i _ _ => rows_first m c b t h _ (by omega)
  unfold laOf uOf
  rw [e]
  exact ⟨rfl, rfl⟩

/-- The second block's states carry the batch's recurrence on. -/
theorem states_second (b : Fin 8) (t : Fin cfg0.N) (h : t.val = 2 * b + 1) (xs0 : FVec Ideal S2056x256 .f32)
    (hx : ∀ (q : Fin 8) (ch : Fin 256), xs0 (ix2 ⟨q, by omega⟩ ch) = (m (c, Proc.tc.devRef main_arg0) : FVec Ideal S8x4096x512 .f32) (ix3 b ⟨2040 + q, by omega⟩ ⟨ch, by omega⟩))
    (w : FVec Ideal S4x256 .f32) (cb : FVec Ideal S1x256 .f32)
    (wg : FVec Ideal S256x512 .bf16) (bg : FVec Ideal S1x512 .f32) (lam : FVec Ideal S1x256 .f32) (c0 : Fin 256 → EReal)
    (hc : ∀ ch, c0 ch = st (fun r => Ideal.exp (laAt (convAt (rowsG (m (c, Proc.tc.devRef main_arg0)) b) w cb r) wg bg lam ch))
          (fun r => uAt (convAt (rowsG (m (c, Proc.tc.devRef main_arg0)) b) w cb r) wg bg lam ch) 0 2048) (r : Fin 2048) (ch : Fin 256) :
    states (oldOf xs0) (iblk m c 0 t) w cb wg bg lam c0 (ix2 r ch)
      = st (fun r => Ideal.exp (laAt (convAt (rowsG (m (c, Proc.tc.devRef main_arg0)) b) w cb r) wg bg lam ch))
          (fun r => uAt (convAt (rowsG (m (c, Proc.tc.devRef main_arg0)) b) w cb r) wg bg lam ch) 0 (2048 + (r + 1)) := by
  rw [st_shift, ← hc]
  refine st_congr fun k hk => ?_
  have hk' : k < 2048 := by have : k < r.val + 1 := hk; omega
  have e : convAt (rowsWith (oldOf xs0) (iblk m c 0 t)) w cb k = convAt (rowsG (m (c, Proc.tc.devRef main_arg0)) b) w cb (2048 + k) :=
    convAt_congr _ _ fun i _ _ => by
      rw [rows_second m c b t h xs0 hx _ (by omega)]
      exact congrArg _ (by omega)
  unfold laOf uOf
  rw [e]
  exact ⟨rfl, rfl⟩

/-- The result array at every batch, step and channel. -/
theorem kernel_value (b : Fin 8) (t : Fin 4096) (ch : Fin 256) : Value.G6 m c (ix3 b t ch) = mixedOf m c b t ch := by
  have hA : 2 * b.val < cfg0.N := by rw [show cfg0.N = 16 from N_0]; omega
  have hB : 2 * b.val + 1 < cfg0.N := by rw [show cfg0.N = 16 from N_0]; omega
  have eA := outsAt0_A m c ⟨2 * b.val, hA⟩ (by show 2 * b.val % 2 = 0; omega)
  by_cases ht : t.val < 2048
  · rw [G6_apply m c b t ch (2 * b) hA (by omega)]
    rw [show outsAt0 m c (2 * b.val) hA = _ from eA]
    dsimp only
    rw [block_A]
    show states _ _ _ _ _ _ _ _ (ix2 _ _) * gelu _ = _
    rw [iblk1_eq, iblk2_eq, iblk3_eq, iblk4_eq, iblk5_eq, states_first m c b ⟨2 * b.val, hA⟩ rfl, iblk0_apply]
    unfold mixedOf mixed
    congr 2
    · show t.val % 2048 + 1 = t.val + 1; omega
    · refine congrArg (m (c, Proc.tc.devRef main_arg0) : FVec Ideal S8x4096x512 .f32) (funext fun a => Fin.ext ?_)
      match a with
      | ⟨0, _⟩ => show 2 * b.val / 2 = b.val; omega
      | ⟨1, _⟩ => show 2048 * (2 * b.val % 2) + t.val % 2048 = t.val; omega
      | ⟨2, _⟩ => rfl
  · have eB := outsAt0_B m c ⟨2 * b.val + 1, hB⟩ (by show ¬(2 * b.val + 1) % 2 = 0; omega)
    rw [G6_apply m c b t ch (2 * b + 1) hB (by omega)]
    rw [show outsAt0 m c (2 * b.val + 1) hB = _ from eB]
    dsimp only
    rw [block_B]
    show states _ _ _ _ _ _ _ _ (ix2 _ _) * gelu _ = _
    rw [iblk1_eq, iblk2_eq, iblk3_eq, iblk4_eq, iblk5_eq, states_second m c b ⟨2 * b.val + 1, hB⟩ rfl, iblk0_apply]
    · unfold mixedOf mixed
      congr 2
      · show 2048 + (t.val % 2048 + 1) = t.val + 1; omega
      · refine congrArg (m (c, Proc.tc.devRef main_arg0) : FVec Ideal S8x4096x512 .f32) (funext fun a => Fin.ext ?_)
        match a with
        | ⟨0, _⟩ => show (2 * b.val + 1) / 2 = b.val; omega
        | ⟨1, _⟩ => show 2048 * ((2 * b.val + 1) % 2) + t.val % 2048 = t.val; omega
        | ⟨2, _⟩ => rfl
    · intro q ch
      show ((outsAt0 m c (2 * b.val + 1 - 1) _).2.1 : FVec Ideal S2056x256 .f32) _ = _
      rw [show outsAt0 m c (2 * b.val + 1 - 1) _ = _ from eA]
      dsimp only
      rw [kept_A, iblk0_apply]
      refine congrArg (m (c, Proc.tc.devRef main_arg0) : FVec Ideal S8x4096x512 .f32) (funext fun a => Fin.ext ?_)
      match a with
      | ⟨0, _⟩ => show 2 * b.val / 2 = b.val; omega
      | ⟨1, _⟩ => show 2048 * (2 * b.val % 2) + (2040 + q.val) = 2040 + q.val; omega
      | ⟨2, _⟩ => rfl
    · intro ch
      show ((outsAt0 m c (2 * b.val + 1 - 1) _).2.2 : FVec Ideal S8x256 .f32) _ = _
      rw [show outsAt0 m c (2 * b.val + 1 - 1) _ = _ from eA]
      dsimp only
      rw [last_A, iblk1_eq, iblk2_eq, iblk3_eq, iblk4_eq, iblk5_eq, states_first m c b ⟨2 * b.val, hA⟩ rfl]
      exact congrArg (st _ _ 0) (by decide : (2047 : Fin 2048).val + 1 = 2048)

end Cert.Lru
-- ==== Proof.LruRef.lean ====
/- The reference's values before its scan, read at an index: the convolved rows, the gates, the decays and the recurrence's inputs
   are the kernel's functions of the same rows. -/
module

public import proofs.«01_k».proof.Proof.LruArray
public import proofs.«01_k».proof.Proof.Gen.ReferenceIdeal.Step
public import Idealize.ShloMosaic.Lib.KernelVsHost

@[expose] public section
set_option maxRecDepth 65536
noncomputable section
namespace Cert.Lru
open Idealize.ShloMosaic hiding ix1 ix2 ix3 ix4 ix5 eq_ix1 eq_ix2 eq_ix3 eq_ix4 eq_ix5
open Idealize.ShloMosaic.TcCoe Idealize.SL.Sem
open Idealize.ShloMosaic.ValueIdx
open Cert.ReferenceIdeal Cert.ReferenceIdeal.Gen Cert.ReferenceIdeal.Step

variable (a0 : FVec Ideal S8x4096x512 .f32) (a1 : FVec Ideal S4x256 .f32) (a2 : FVec Ideal S256 .f32) (a3 : FVec Ideal S4x64x64 .f32)
  (a4 : FVec Ideal S256 .f32) (a5 : FVec Ideal S4x64x64 .f32) (a6 : FVec Ideal S256 .f32) (a7 : FVec Ideal S256 .f32)

/-- A row of 256 channels spread over the batch and the steps. -/
theorem ref_spread {α : Type} (v : S256.Idx → α) (b : Fin 8) (t : Fin 4096) (ch : Fin 256) :
    broadcastInDim S8x4096x256 ![0, 1, 2] bcast_S1x1x256_S8x4096x256_0_1_2 (broadcastInDim S1x1x256 ![2] bcast_S256_S1x1x256_2 v) (ix3 b t ch) = v (ix1 ch) := by
  rw [broadcastInDim_apply _ _ _ _ (ix3 0 0 ch) fun q => match q with | ⟨0, _⟩ => rfl | ⟨1, _⟩ => rfl | ⟨2, _⟩ => rfl]
  rw [broadcastInDim_apply _ _ _ _ (ix1 ch) fun q => match q with | ⟨0, _⟩ => rfl]

/-- A constant spread over the batch, the steps and the channels. -/
theorem ref_const (w : BitVec 32) (j : S8x4096x256.Idx) :
    broadcastInDim S8x4096x256 ![] bcast_S_S8x4096x256 (constant (F := Ideal) S_ .f32 w) j = Ideal.ofBits .f32 w := rfl

/-- A tap. -/
theorem ref_tap (k : Fin 4) (h : S4x256.Slices ![k.val, 0] S1x256) (ch : Fin 256) :
    shapeCast S256 (extractStridedSlice S1x256 ![k.val, 0] a1 h) shapeCasts_S1x256_S256 (ix1 ch) = a1 (ix2 k ch) := by
  rw [shapeCast_apply _ _ _ (ix2 0 ch) (by rw [Shape.rowMajor_val_two, Shape.rowMajor_val_one]; show 0 * 256 + ch.val = ch.val; omega)]
  exact extractStridedSlice_apply _ _ _ _ _ fun q => match q with | ⟨0, _⟩ => rfl | ⟨1, _⟩ => (Nat.zero_add _).symm

/-- The recurrent half with zero rows in front, read `k` rows on. -/
theorem ref_rows (k : Fin 4) (h : S8x4099x256.Slices ![0, k.val, 0] S8x4096x256) (b : Fin 8) (t : Fin 4096) (ch : Fin 256) :
    extractStridedSlice S8x4096x256 ![0, k.val, 0] (A_main_v1 (F := Ideal) a0 a1 a2 a3 a4 a5 a6 a7) h (ix3 b t ch) = rowsG a0 b (5 + k + t) ch := by
  rw [extractStridedSlice_apply _ _ _ _ (ix3 b ⟨k + t, by omega⟩ ch) fun q => match q with | ⟨0, _⟩ => (Nat.zero_add _).symm | ⟨1, _⟩ => rfl | ⟨2, _⟩ => (Nat.zero_add _).symm]
  unfold A_main_v1 rowsG
  by_cases h3 : 3 ≤ k.val + t.val
  · rw [pad_apply_of_inside _ _ _ _ _ _ _ _ (ix3 b ⟨k + t - 3, by omega⟩ ch) fun q => match q with
      | ⟨0, _⟩ => (by show b.val = 0 + b.val * 1; omega) | ⟨1, _⟩ => (by show k.val + t.val = 3 + (k.val + t.val - 3) * 1; omega) | ⟨2, _⟩ => (by show ch.val = 0 + ch.val * 1; omega)]
    rw [dif_pos ⟨by omega, by omega⟩]
    unfold A_main_v0
    rw [extractStridedSlice_apply _ _ _ _ (ix3 b ⟨k + t - 3, by omega⟩ ⟨ch, by omega⟩) fun q => match q with
      | ⟨0, _⟩ => (Nat.zero_add _).symm | ⟨1, _⟩ => (Nat.zero_add _).symm | ⟨2, _⟩ => (Nat.zero_add _).symm]
    refine congrArg a0 (funext fun q => Fin.ext ?_)
    match q with
    | ⟨0, _⟩ => rfl
    | ⟨1, _⟩ => show k.val + t.val - 3 = 5 + k.val + t.val - 8; omega
    | ⟨2, _⟩ => rfl
  · rw [pad_apply_of_not_inside _ _ _ _ _ _ _ _ 1 fun hq => h3 hq.1, dif_neg (by omega)]
    show (((0#32 : BitVec 32).toInt : ℝ) : EReal) = 0
    simp

/-- The convolved rows. -/
theorem ref_conv (b : Fin 8) (t : Fin 4096) (ch : Fin 256) :
    A_main_v33 (F := Ideal) a0 a1 a2 a3 a4 a5 a6 a7 (ix3 b t ch) = convAt (rowsG a0 b) a1 (rowOf a2) t ch := by
  have h (k : Fin 4) (h1 h2) : extractStridedSlice S8x4096x256 ![0, k.val, 0] (A_main_v1 (F := Ideal) a0 a1 a2 a3 a4 a5 a6 a7) h1 (ix3 b t ch)
      * broadcastInDim S8x4096x256 ![0, 1, 2] bcast_S1x1x256_S8x4096x256_0_1_2 (broadcastInDim S1x1x256 ![2] bcast_S256_S1x1x256_2
          (shapeCast S256 (extractStridedSlice S1x256 ![k.val, 0] a1 h2) shapeCasts_S1x256_S256)) (ix3 b t ch)
      = rowsG a0 b (5 + k + t) ch * a1 (ix2 k ch) := by rw [ref_rows, ref_spread, ref_tap]
  have e0 : A_main_v7 (F := Ideal) a0 a1 a2 a3 a4 a5 a6 a7 (ix3 b t ch) = rowsG a0 b (5 + t) ch * a1 (ix2 0 ch) := h 0 _ _
  have e1 : A_main_v15 (F := Ideal) a0 a1 a2 a3 a4 a5 a6 a7 (ix3 b t ch) = rowsG a0 b (6 + t) ch * a1 (ix2 1 ch) := h 1 _ _
  have e2 : A_main_v22 (F := Ideal) a0 a1 a2 a3 a4 a5 a6 a7 (ix3 b t ch) = rowsG a0 b (7 + t) ch * a1 (ix2 2 ch) := h 2 _ _
  have e3 : A_main_v29 (F := Ideal) a0 a1 a2 a3 a4 a5 a6 a7 (ix3 b t ch) = rowsG a0 b (8 + t) ch * a1 (ix2 3 ch) := h 3 _ _
  have e4 : A_main_v32 (F := Ideal) a0 a1 a2 a3 a4 a5 a6 a7 (ix3 b t ch) = a2 (ix1 ch) := ref_spread _ b t ch
  unfold A_main_v33 A_main_v30 A_main_v23 A_main_v16 A_main_v9 convAt
  simp only [ValueIdx.addf_apply]
  rw [e0, e1, e2, e3, e4, rowOf_apply, show K_main_v8 (F := Ideal) (ix3 b t ch) = 0 from Ideal.ofBits_zero_f32, zero_add]
  simp only [mul_comm (rowsG _ _ _ _)]
  abel

/-- The convolved rows by block. -/
theorem ref_conv4 (b : Fin 8) (t : Fin 4096) (q : Fin 4) (i : Fin 64) :
    A_main_v34 (F := Ideal) a0 a1 a2 a3 a4 a5 a6 a7 (ix4 b t q i) = convAt (rowsG a0 b) a1 (rowOf a2) t ⟨64 * q + i, by omega⟩ := by
  unfold A_main_v34
  rw [shapeCast_apply _ _ _ (ix3 b t ⟨64 * q + i, by omega⟩) (by
    rw [Shape.rowMajor_val_three, Shape.rowMajor_val_four]
    show (b.val * 4096 + t.val) * 256 + (64 * q.val + i.val) = ((b.val * 4096 + t.val) * 4 + q.val) * 64 + i.val
    omega), ref_conv]

/-- A gate's product with its block's matrix. -/
theorem ref_gate (w : FVec Ideal S4x64x64 .f32) (b : Fin 8) (t : Fin 4096) (q : Fin 4) (o : Fin 64) :
    shapeCast S8x4096x256 (transpose S8x4096x4x64 [2, 3, 0, 1]
        (Host.dotGeneral (F := Ideal) (φ₁ := .f32) (φ₂ := .f32) dot_S4x64x64_S8x4096x4x64_S4x64x8x4096_1_3_2_01_0_2 none w (A_main_v34 (F := Ideal) a0 a1 a2 a3 a4 a5 a6 a7))
        transposes_S4x64x8x4096_S8x4096x4x64_2_3_0_1) shapeCasts_S8x4096x4x64_S8x4096x256 (ix3 b t ⟨64 * q + o, by omega⟩)
      = ∑ i : Fin 64, w (ix3 q i o) * convAt (rowsG a0 b) a1 (rowOf a2) t ⟨64 * q + i, by omega⟩ := by
  rw [shapeCast_apply _ _ _ (ix4 b t q o) (by
    rw [Shape.rowMajor_val_three, Shape.rowMajor_val_four]
    show ((b.val * 4096 + t.val) * 4 + q.val) * 64 + o.val = (b.val * 4096 + t.val) * 256 + (64 * q.val + o.val)
    omega)]
  rw [transpose_apply _ _ _ _ (ix4 q o b t) fun k => match k with | ⟨0, _⟩ => rfl | ⟨1, _⟩ => rfl | ⟨2, _⟩ => rfl | ⟨3, _⟩ => rfl]
  refine (Ideal.matmul_apply₁_of (a := 1) _ rfl (K := 64) rfl w (A_main_v34 (F := Ideal) a0 a1 a2 a3 a4 a5 a6 a7) (fun _ => 0) _ (fun i => ix3 q i o) (fun i => ix4 b t q i)
    (fun k => funext fun a => match a with | ⟨0, _⟩ => rfl | ⟨1, _⟩ => rfl | ⟨2, _⟩ => rfl)
    (fun k => funext fun a => match a with | ⟨0, _⟩ => rfl | ⟨1, _⟩ => rfl | ⟨2, _⟩ => rfl | ⟨3, _⟩ => rfl)).trans ?_
  rw [zero_add]
  exact Finset.sum_congr rfl fun i _ => by rw [ref_conv4]

/-- The block-diagonal product is the block's. -/
theorem diag_sum (x : Fin 256 → EReal) (w : FVec Ideal S4x64x64 .f32) (q : Fin 4) (o : Fin 64) :
    (∑ k : Fin 256, x k * blockDiag w (ix2 k ⟨64 * q + o, by omega⟩)) = ∑ i : Fin 64, w (ix3 q i o) * x ⟨64 * q + i, by omega⟩ := by
  rw [← Equiv.sum_comp (finProdFinEquiv (m := 4) (n := 64)) (fun k : Fin 256 => x k * blockDiag w (ix2 k ⟨64 * q + o, by omega⟩)), Fintype.sum_prod_type]
  have e : ∀ (p : Fin 4) (i : Fin 64), (finProdFinEquiv (p, i) : Fin 256) = ⟨64 * p + i, by omega⟩ := fun p i => Fin.ext (by
    show i.val + 64 * p.val = 64 * p.val + i.val; omega)
  simp only [e, blockDiag_apply]
  rw [Finset.sum_eq_single q]
  · exact Finset.sum_congr rfl fun i _ => by rw [if_pos rfl, one_mul, mul_comm]
  · intro p _ hp
    exact Finset.sum_eq_zero fun i _ => by rw [if_neg hp, zero_mul, mul_zero]
  · intro h; exact absurd (Finset.mem_univ _) h

/-- The recurrence gate. -/
theorem ref_r (b : Fin 8) (t : Fin 4096) (ch : Fin 256) :
    A_main_v46 (F := Ideal) a0 a1 a2 a3 a4 a5 a6 a7 (ix3 b t ch)
      = Ideal.logistic (gateAt (convAt (rowsG a0 b) a1 (rowOf a2) t) (gateWeights a3 a5) (gateBias a4 a6) ⟨ch, by omega⟩) := by
  obtain ⟨q, o, rfl⟩ : ∃ (q : Fin 4) (o : Fin 64), ch = ⟨64 * q + o, by omega⟩ :=
    ⟨⟨ch / 64, by omega⟩, ⟨ch % 64, by omega⟩, Fin.ext (by show ch.val = 64 * (ch.val / 64) + ch.val % 64; omega)⟩
  have e : A_main_v40 (F := Ideal) a0 a1 a2 a3 a4 a5 a6 a7 (ix3 b t ⟨64 * q + o, by omega⟩)
      = gateAt (convAt (rowsG a0 b) a1 (rowOf a2) t) (gateWeights a3 a5) (gateBias a4 a6) ⟨64 * q + o, by omega⟩ := by
    unfold A_main_v40 A_main_v37 A_main_v36 A_main_v35 A_main_v39 A_main_v38 gateAt
    rw [ValueIdx.addf_apply, ref_spread, ref_gate, ← diag_sum, gateBias_left a4 a6 ⟨64 * q + o, by omega⟩]
    exact congrArg (· + _) (Finset.sum_congr rfl fun k _ => by rw [gateWeights_left a3 a5 k ⟨64 * q + o, by omega⟩])
  rw [← e]
  unfold A_main_v46 A_main_v44 A_main_v42 A_main_v41 K_main_v45 K_main_v43 K_main_cst_0 K_main_cst_1
  show Ideal.div (Ideal.ofBits .f32 0x3F800000#32) (Ideal.ofBits .f32 0x3F800000#32 + Ideal.exp (-_)) = Ideal.div 1 (1 + Ideal.exp (-_))
  rw [Ideal.ofBits_one_f32]

/-- The input gate. -/
theorem ref_i (b : Fin 8) (t : Fin 4096) (ch : Fin 256) :
    A_main_v58 (F := Ideal) a0 a1 a2 a3 a4 a5 a6 a7 (ix3 b t ch)
      = Ideal.logistic (gateAt (convAt (rowsG a0 b) a1 (rowOf a2) t) (gateWeights a3 a5) (gateBias a4 a6) ⟨256 + ch, by omega⟩) := by
  obtain ⟨q, o, rfl⟩ : ∃ (q : Fin 4) (o : Fin 64), ch = ⟨64 * q + o, by omega⟩ :=
    ⟨⟨ch / 64, by omega⟩, ⟨ch % 64, by omega⟩, Fin.ext (by show ch.val = 64 * (ch.val / 64) + ch.val % 64; omega)⟩
  have e : A_main_v52 (F := Ideal) a0 a1 a2 a3 a4 a5 a6 a7 (ix3 b t ⟨64 * q + o, by omega⟩)
      = gateAt (convAt (rowsG a0 b) a1 (rowOf a2) t) (gateWeights a3 a5) (gateBias a4 a6) ⟨256 + (64 * q + o), by omega⟩ := by
    unfold A_main_v52 A_main_v49 A_main_v48 A_main_v47 A_main_v51 A_main_v50 gateAt
    rw [ValueIdx.addf_apply, ref_spread, ref_gate, ← diag_sum, gateBias_right a4 a6 ⟨64 * q + o, by omega⟩]
    exact congrArg (· + _) (Finset.sum_congr rfl fun k _ => by rw [gateWeights_right a3 a5 k ⟨64 * q + o, by omega⟩])
  show _ = Ideal.logistic (gateAt _ _ _ ⟨256 + (64 * q.val + o.val), _⟩)
  rw [← e]
  unfold A_main_v58 A_main_v56 A_main_v54 A_main_v53 K_main_v57 K_main_v55 K_main_cst_2 K_main_cst_3
  show Ideal.div (Ideal.ofBits .f32 0x3F800000#32) (Ideal.ofBits .f32 0x3F800000#32 + Ideal.exp (-_)) = Ideal.div 1 (1 + Ideal.exp (-_))
  rw [Ideal.ofBits_one_f32]

/-- The decay's logarithm. -/
theorem ref_la (b : Fin 8) (t : Fin 4096) (ch : Fin 256) :
    A_main_v65 (F := Ideal) a0 a1 a2 a3 a4 a5 a6 a7 (ix3 b t ch)
      = laAt (convAt (rowsG a0 b) a1 (rowOf a2) t) (gateWeights a3 a5) (gateBias a4 a6) (rowOf a7) ch := by
  have e : A_main_v62 (F := Ideal) a0 a1 a2 a3 a4 a5 a6 a7 (ix1 ch)
      = max (0 - a7 (ix1 ch)) 0 + Ideal.log (1 + Ideal.exp (0 - FloatOps.absf (F := Ideal) (φ := .f32) (0 - a7 (ix1 ch)))) := by
    unfold A_main_v62 A_main_call1_v11 A_main_call1_v10 A_main_call1_v9 A_main_call1_v8 A_main_call1_v7 A_main_call1_v6 A_main_call1_v4 A_main_call1_v3 A_main_call1_v1 A_main_v61
      K_main_call1_v0 K_main_call1_v2 K_main_call1_v5 K_main_call1_cst
    show (if Ideal.cmp .une (-(a7 (ix1 ch)) - Ideal.ofBits .f32 0#32) (-(a7 (ix1 ch)) - Ideal.ofBits .f32 0#32) = 1#1 then _
      else max (-(a7 (ix1 ch))) (Ideal.ofBits .f32 0#32) + Ideal.log (1 + Ideal.exp (-(FloatOps.absf (F := Ideal) (φ := .f32) (-(a7 (ix1 ch)) - Ideal.ofBits .f32 0#32))))) = _
    rw [Ideal.ofBits_zero_f32, sub_zero, zero_sub, zero_sub, if_neg (by simp [Ideal.cmp])]
  unfold A_main_v65 A_main_v64 A_main_v63 A_main_v60 K_main_v59 K_main_cst_4 laAt logDecay
  rw [ValueIdx.mulf_apply, ValueIdx.mulf_apply, ref_spread, ref_const, ref_r, e, rowOf_apply]

/-- The decays. -/
theorem ref_decay (b : Fin 8) (t : Fin 4096) (ch : Fin 256) :
    A_main_v75 (F := Ideal) a0 a1 a2 a3 a4 a5 a6 a7 (ix3 t b ch)
      = Ideal.exp (laAt (convAt (rowsG a0 b) a1 (rowOf a2) t) (gateWeights a3 a5) (gateBias a4 a6) (rowOf a7) ch) := by
  unfold A_main_v75
  rw [transpose_apply _ _ _ _ (ix3 b t ch) fun k => match k with | ⟨0, _⟩ => rfl | ⟨1, _⟩ => rfl | ⟨2, _⟩ => rfl, ← ref_la]
  rfl

/-- The recurrence's inputs. -/
theorem ref_input (b : Fin 8) (t : Fin 4096) (ch : Fin 256) :
    A_main_v76 (F := Ideal) a0 a1 a2 a3 a4 a5 a6 a7 (ix3 t b ch)
      = uAt (convAt (rowsG a0 b) a1 (rowOf a2) t) (gateWeights a3 a5) (gateBias a4 a6) (rowOf a7) ch := by
  unfold A_main_v76
  rw [transpose_apply _ _ _ _ (ix3 b t ch) fun k => match k with | ⟨0, _⟩ => rfl | ⟨1, _⟩ => rfl | ⟨2, _⟩ => rfl]
  unfold A_main_v73 A_main_v72 A_main_v71 A_main_v70 A_main_v69 A_main_v68 K_main_v67 K_main_cst_5 uAt gated
  rw [ValueIdx.mulf_apply, ValueIdx.mulf_apply, ref_i, ref_conv, one_sub_sq (show laAt _ _ _ _ _ ≤ 0 from logDecay_nonpos _ _), ← ref_la]
  rfl

end Cert.Lru
-- ==== Proof.LruRefRun.lean ====
/- The reference's run over its loop's step (Gen/ReferenceIdeal/Step.lean): at a valuation that holds a state every value of
   one trip is that module's, one lemma each; what @main leaves before the loop holds the initial state; and the run's
   result is the field of the step iterated from it. -/
module

public import proofs.«01_k».proof.Proof.Gen.ReferenceIdeal.Run
public import proofs.«01_k».proof.Proof.Gen.ReferenceIdeal.Step

@[expose] public section

noncomputable section

namespace Cert.LruRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v78_3) = s.main_v78_3
  f_4 : V0 (Proc.devRef .tc main_v78_4) = s.main_v78_4
  f_0 : V0 (Proc.devRef .tc main_v78_0) = s.main_v78_0
  f_1 : V0 (Proc.devRef .tc main_v78_1) = s.main_v78_1
  n_2 : V0 (Proc.devRef .tc main_v78_2) = constantI S_ 32 (BitVec.ofNat 32 j)

variable {V0 s j}

set_option maxRecDepth 8192 in
theorem al_0 (h : Holds V0 s j) : (constantI S_ 32 0#32 : (Proc.devRef .tc main_while0b_call2_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call2_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x8x256 (V0 (Proc.devRef .tc main_v78_0)) (fun k => (((![V0 (Proc.devRef .tc main_v78_2), constantI S_ 32 0#32, constantI S_ 32 0#32] : Fin 3 → (⟨S_, .i32⟩ : BufTy).Contents (Elt F))) k (Shape.Idx.first h_S_)).toInt) sliceFits_S4096x8x256_S1x8x256 : (Proc.devRef .tc main_while0b_call2_v0 : DevRef τ sig).ty.Contents (Elt F)) = Cert.ReferenceIdeal.Step.b2 j s := by
  unfold Cert.ReferenceIdeal.Step.b2
  rw [← al_0 h, ← al_1 h, h.f_0, h.n_2]
  try rfl
set_option maxRecDepth 8192 in
theorem al_3 (h : Holds V0 s j) : (shapeCast S8x256 (Host.dynamicSlice S1x8x256 (V0 (Proc.devRef .tc main_v78_0)) (fun k => (((![V0 (Proc.devRef .tc main_v78_2), constantI S_ 32 0#32, constantI S_ 32 0#32] : Fin 3 → (⟨S_, .i32⟩ : BufTy).Contents (Elt F))) k (Shape.Idx.first h_S_)).toInt) sliceFits_S4096x8x256_S1x8x256) shapeCasts_S1x8x256_S8x256 : (Proc.devRef .tc main_while0b_v95 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (constantI S_ 32 0#32 : (Proc.devRef .tc main_while0b_call3_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call3_c_0 : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S1x8x256 (V0 (Proc.devRef .tc main_v78_1)) (fun k => (((![V0 (Proc.devRef .tc main_v78_2), constantI S_ 32 0#32, constantI S_ 32 0#32] : Fin 3 → (⟨S_, .i32⟩ : BufTy).Contents (Elt F))) k (Shape.Idx.first h_S_)).toInt) sliceFits_S4096x8x256_S1x8x256 : (Proc.devRef .tc main_while0b_call3_v0 : DevRef τ sig).ty.Contents (Elt F)) = Cert.ReferenceIdeal.Step.b6 j s := by
  unfold Cert.ReferenceIdeal.Step.b6
  rw [← al_4 h, ← al_5 h, h.f_1, h.n_2]
  try rfl
set_option maxRecDepth 8192 in
theorem al_7 (h : Holds V0 s j) : (shapeCast S8x256 (Host.dynamicSlice S1x8x256 (V0 (Proc.devRef .tc main_v78_1)) (fun k => (((![V0 (Proc.devRef .tc main_v78_2), constantI S_ 32 0#32, constantI S_ 32 0#32] : Fin 3 → (⟨S_, .i32⟩ : BufTy).Contents (Elt F))) k (Shape.Idx.first h_S_)).toInt) sliceFits_S4096x8x256_S1x8x256) shapeCasts_S1x8x256_S8x256 : (Proc.devRef .tc main_while0b_v96 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (mulf (shapeCast S8x256 (Host.dynamicSlice S1x8x256 (V0 (Proc.devRef .tc main_v78_0)) (fun k => (((![V0 (Proc.devRef .tc main_v78_2), constantI S_ 32 0#32, constantI S_ 32 0#32] : Fin 3 → (⟨S_, .i32⟩ : BufTy).Contents (Elt F))) k (Shape.Idx.first h_S_)).toInt) sliceFits_S4096x8x256_S1x8x256) shapeCasts_S1x8x256_S8x256) (V0 (Proc.devRef .tc main_v78_3)) : (Proc.devRef .tc main_while0b_v97 : DevRef τ sig).ty.Contents (Elt F)) = Cert.ReferenceIdeal.Step.b8 j s := by
  unfold Cert.ReferenceIdeal.Step.b8
  rw [← al_3 h, h.f_3]
  try rfl
set_option maxRecDepth 8192 in
theorem al_9 (h : Holds V0 s j) : (res_main_while0b_v98 V0 : (Proc.devRef .tc main_while0b_v98 : DevRef τ sig).ty.Contents (Elt F)) = Cert.ReferenceIdeal.Step.b9 j s := by
  unfold res_main_while0b_v98 Cert.ReferenceIdeal.Step.b9
  rw [← al_8 h, ← al_7 h]
  try rfl
set_option maxRecDepth 8192 in
theorem al_10 (h : Holds V0 s j) : (broadcastInDim S1x8x256 ![1, 2] bcast_S8x256_S1x8x256_1_2 (res_main_while0b_v98 V0) : (Proc.devRef .tc main_while0b_call4_v0 : DevRef τ sig).ty.Contents (Elt F)) = Cert.ReferenceIdeal.Step.b10 j s := by
  unfold Cert.ReferenceIdeal.Step.b10
  rw [← al_9 h]
  try rfl
set_option maxRecDepth 8192 in
theorem al_11 (h : Holds V0 s j) : (constantI S_ 32 0#32 : (Proc.devRef .tc main_while0b_call4_c : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call4_c_0 : DevRef τ sig).ty.Contents (Elt F)) = Cert.ReferenceIdeal.Step.b12 j s := by
  unfold Cert.ReferenceIdeal.Step.b12
  rfl
set_option maxRecDepth 8192 in
theorem al_13 (h : Holds V0 s j) : (Host.dynamicUpdateSlice (V0 (Proc.devRef .tc main_v78_4)) (broadcastInDim S1x8x256 ![1, 2] bcast_S8x256_S1x8x256_1_2 (res_main_while0b_v98 V0)) (fun k => (((![V0 (Proc.devRef .tc main_v78_2), constantI S_ 32 0#32, constantI S_ 32 0#32] : Fin 3 → (⟨S_, .i32⟩ : BufTy).Contents (Elt F))) k (Shape.Idx.first h_S_)).toInt) updateFits_S4096x8x256_S1x8x256 : (Proc.devRef .tc main_while0b_v99 : DevRef τ sig).ty.Contents (Elt F)) = Cert.ReferenceIdeal.Step.b13 j s := by
  unfold Cert.ReferenceIdeal.Step.b13
  rw [← al_10 h, ← al_11 h, ← al_12 h, h.f_4, h.n_2]
  try rfl

/-! One trip's step of the carried values is `step`, field by field; a counter steps to the next number. -/

theorem step_3 (h : Holds V0 s j) : step_main_v78_3 V0 = (step j s).main_v78_3 := by
  unfold step_main_v78_3 Cert.ReferenceIdeal.Step.step
  show id (res_main_while0b_v98 V0) = _
  rw [al_9 h]
  try rfl
theorem step_4 (h : Holds V0 s j) : step_main_v78_4 V0 = (step j s).main_v78_4 := by
  unfold step_main_v78_4 Cert.ReferenceIdeal.Step.step
  show id (Host.dynamicUpdateSlice (V0 (Proc.devRef .tc main_v78_4)) (broadcastInDim S1x8x256 ![1, 2] bcast_S8x256_S1x8x256_1_2 (res_main_while0b_v98 V0)) (fun k => (((![V0 (Proc.devRef .tc main_v78_2), constantI S_ 32 0#32, constantI S_ 32 0#32] : Fin 3 → (⟨S_, .i32⟩ : BufTy).Contents (Elt F))) k (Shape.Idx.first h_S_)).toInt) updateFits_S4096x8x256_S1x8x256) = _
  exact al_13 h
theorem step_2 (h : Holds V0 s j) : step_main_v78_2 V0 = constantI S_ 32 (BitVec.ofNat 32 (j + 1)) := by
  unfold step_main_v78_2
  rw [h.n_2]
  funext i
  show BitVec.ofNat 32 j + 1#32 = BitVec.ofNat 32 (j + 1)
  simp only [BitVec.ofNat_add]

set_option maxRecDepth 8192 in
theorem out_main_v94_holds (h : Holds V0 s j) {x_main_arg0 : (⟨S8x4096x512, .f32⟩ : BufTy).Contents (Elt F)} (h_main_arg0 : V0 (Proc.devRef .tc main_arg0) = x_main_arg0) : out_main_v94 V0 = Cert.ReferenceIdeal.Step.R_main_v94 s x_main_arg0 := by
  unfold out_main_v94 Cert.ReferenceIdeal.Step.R_main_v94
  rw [h.f_4, h_main_arg0]
  try rfl

/-- One trip keeps the valuation holding: `step` of the state, the same set-up values, the next number. -/
theorem holds_step (h : Holds V0 s j) : Holds (STEP V0) (step j s) (j + 1) where
  f_3 := (STEP_main_v78_3 V0).trans (step_3 h)
  f_4 := (STEP_main_v78_4 V0).trans (step_4 h)
  n_2 := (STEP_main_v78_2 V0).trans (step_2 h)
  f_0 := (STEP_main_v78_0 V0).trans h.f_0
  f_1 := (STEP_main_v78_1 V0).trans h.f_1

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 4096 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v94) = Cert.ReferenceIdeal.Step.R_main_v94 (it c 4096) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 4096
    ⟨(h c).1.trans (out_main_v94_holds hk (iter_main_arg0 m c 4096)), (h c).2.1, (h c).2.2.1, (h c).2.2.2.1, (h c).2.2.2.2.1, (h c).2.2.2.2.2.1, (h c).2.2.2.2.2.2.1, (h c).2.2.2.2.2.2.2.1, (h c).2.2.2.2.2.2.2.2⟩) (Value.run m ρ)

end Cert.LruRun

end
-- ==== Proof.LruClaim.lean ====
/- The reference's scan carried through its steps, its result at an index, and the two programs' results joined. -/
module

public import proofs.«01_k».proof.Proof.LruRef
public import proofs.«01_k».proof.Proof.LruRefRun
public import proofs.«01_k».proof.Defs
public import Idealize.ShloMosaic.Lib.DynamicIndex

@[expose] public section
set_option maxRecDepth 65536
noncomputable section
namespace Cert.Lru
open Idealize.ShloMosaic hiding ix1 ix2 ix3 ix4 ix5 eq_ix1 eq_ix2 eq_ix3 eq_ix4 eq_ix5
open Idealize.ShloMosaic.TcCoe Idealize.SL.Sem
open Idealize.ShloMosaic.ValueIdx
open Cert.ReferenceIdeal Cert.ReferenceIdeal.Gen Cert.ReferenceIdeal.Step

/-- The start of step `n`'s slice: row `n`. -/
theorem start_of (n : ℕ) (hn : n < 4096) (z0 z1 : (⟨S_, .i32⟩ : BufTy).Contents (Elt Ideal)) (h0 : z0 = constantI S_ 32 0#32) (h1 : z1 = constantI S_ 32 0#32)
    (h : S1x8x256.rank = S4096x8x256.rank) (k : Fin 3) :
    Host.clampedStart S4096x8x256 S1x8x256 h (fun k => (((![(constantI S_ 32 (BitVec.ofNat 32 n) : (⟨S_, .i32⟩ : BufTy).Contents (Elt Ideal)), z0, z1] : Fin 3 → (⟨S_, .i32⟩ : BufTy).Contents (Elt Ideal))) k (Shape.Idx.first h_S_)).toInt) k = (![n, 0, 0] : Fin 3 → ℕ) k := by
  subst h0 h1
  match k with
  | ⟨0, _⟩ => exact Host.clampedStart_of_le h _ _ n (toInt_ofNat_of_lt (by omega)) (by show n + 1 ≤ 4096; omega)
  | ⟨1, _⟩ => exact Host.clampedStart_of_le h _ _ 0 (by show (0#32 : BitVec 32).toInt = 0; rfl) (by show 0 + 8 ≤ 8; omega)
  | ⟨2, _⟩ => exact Host.clampedStart_of_le h _ _ 0 (by show (0#32 : BitVec 32).toInt = 0; rfl) (by show 0 + 256 ≤ 256; omega)

/-- Row `n` cut from the rows. -/
theorem cut_row {α : Type} (x : S4096x8x256.Idx → α) (n : ℕ) (hn : n < 4096) (z0 z1 : (⟨S_, .i32⟩ : BufTy).Contents (Elt Ideal)) (h0 : z0 = constantI S_ 32 0#32) (h1 : z1 = constantI S_ 32 0#32)
    (b : Fin 8) (ch : Fin 256) :
    shapeCast S8x256 (Host.dynamicSlice S1x8x256 x (fun k => (((![(constantI S_ 32 (BitVec.ofNat 32 n) : (⟨S_, .i32⟩ : BufTy).Contents (Elt Ideal)), z0, z1] : Fin 3 → (⟨S_, .i32⟩ : BufTy).Contents (Elt Ideal))) k (Shape.Idx.first h_S_)).toInt) sliceFits_S4096x8x256_S1x8x256) shapeCasts_S1x8x256_S8x256 (ix2 b ch)
      = x (ix3 ⟨n, hn⟩ b ch) := by
  rw [shapeCast_apply _ _ _ (ix3 0 b ch) (by rw [Shape.rowMajor_val_three, Shape.rowMajor_val_two]; show (0 * 8 + b.val) * 256 + ch.val = b.val * 256 + ch.val; omega)]
  rw [Host.dynamicSlice_apply, Shape.Idx.norm_def]
  refine congrArg x (funext fun a => Fin.ext ?_)
  show Host.clampedStart _ _ _ _ a + _ = _
  rw [start_of n hn z0 z1 h0 h1]
  match a with
  | ⟨0, _⟩ => rfl
  | ⟨1, _⟩ => exact Nat.zero_add _
  | ⟨2, _⟩ => exact Nat.zero_add _

/-- Row `n` written into the rows: the written row there, the old rows elsewhere. -/
theorem put_row {α : Type} (x : S4096x8x256.Idx → α) (v : S8x256.Idx → α) (n : ℕ) (hn : n < 4096) (z0 z1 : (⟨S_, .i32⟩ : BufTy).Contents (Elt Ideal)) (h0 : z0 = constantI S_ 32 0#32) (h1 : z1 = constantI S_ 32 0#32)
    (k : Fin 4096) (b : Fin 8) (ch : Fin 256) :
    Host.dynamicUpdateSlice x (broadcastInDim S1x8x256 ![1, 2] bcast_S8x256_S1x8x256_1_2 v) (fun k => (((![(constantI S_ 32 (BitVec.ofNat 32 n) : (⟨S_, .i32⟩ : BufTy).Contents (Elt Ideal)), z0, z1] : Fin 3 → (⟨S_, .i32⟩ : BufTy).Contents (Elt Ideal))) k (Shape.Idx.first h_S_)).toInt) updateFits_S4096x8x256_S1x8x256 (ix3 k b ch)
      = if k.val = n then v (ix2 b ch) else x (ix3 k b ch) := by
  rw [Host.dynamicUpdateSlice_apply]
  simp only [start_of n hn z0 z1 h0 h1]
  by_cases hk : k.val = n
  · rw [if_pos hk, dif_pos]
    · refine broadcastInDim_apply _ _ _ _ (ix2 b ch) fun q => ?_
      rw [Shape.Idx.norm_def]
      match q with
      | ⟨0, _⟩ => rfl
      | ⟨1, _⟩ => rfl
    · intro a
      match a with
      | ⟨0, _⟩ => exact ⟨by show n ≤ k.val; omega, by show k.val < n + 1; omega⟩
      | ⟨1, _⟩ => exact ⟨Nat.zero_le _, by show b.val < 0 + 8; omega⟩
      | ⟨2, _⟩ => exact ⟨Nat.zero_le _, by show ch.val < 0 + 256; omega⟩
  · rw [if_neg hk, dif_neg]
    intro h
    have h3 := h 0
    have h4 : n ≤ k.val ∧ k.val < n + 1 := h3
    omega

variable (s0 : State Ideal) (a u : Fin 8 → Fin 256 → ℕ → EReal)

/-- The states of the reference's loop. -/
def iter : ℕ → State Ideal
  | 0 => s0
  | n + 1 => step n (iter n)

theorem iter_decays (n : ℕ) : (iter s0 n).main_v78_0 = s0.main_v78_0 := by
  induction n with
  | zero => rfl
  | succ n ih => exact ih

theorem iter_inputs (n : ℕ) : (iter s0 n).main_v78_1 = s0.main_v78_1 := by
  induction n with
  | zero => rfl
  | succ n ih => exact ih

/-- After `n` steps the carried row is the recurrence's state after `n` steps. -/
theorem iter_state (hh : ∀ b ch, s0.main_v78_3 (ix2 b ch) = (0 : EReal))
    (ha : ∀ (t : Fin 4096) b ch, s0.main_v78_0 (ix3 t b ch) = a b ch t) (hu : ∀ (t : Fin 4096) b ch, s0.main_v78_1 (ix3 t b ch) = u b ch t)
    (n : ℕ) (hn : n ≤ 4096) (b : Fin 8) (ch : Fin 256) : (iter s0 n).main_v78_3 (ix2 b ch) = st (a b ch) (u b ch) 0 n := by
  induction n with
  | zero => exact hh b ch
  | succ n ih =>
    show (step n (iter s0 n)).main_v78_3 (ix2 b ch) = _
    rw [step_main_v78_3]
    show b3 n (iter s0 n) (ix2 b ch) * (iter s0 n).main_v78_3 (ix2 b ch) + b7 n (iter s0 n) (ix2 b ch) = a b ch n * st (a b ch) (u b ch) 0 n + u b ch n
    have e3 : b3 n (iter s0 n) (ix2 b ch) = (iter s0 n).main_v78_0 (ix3 ⟨n, by omega⟩ b ch) :=
      cut_row _ n (by omega) _ _ rfl rfl b ch
    have e7 : b7 n (iter s0 n) (ix2 b ch) = (iter s0 n).main_v78_1 (ix3 ⟨n, by omega⟩ b ch) :=
      cut_row _ n (by omega) _ _ rfl rfl b ch
    rw [e3, e7, ih (by omega), iter_decays, iter_inputs, ha, hu]

/-- After `n` steps the first `n` rows hold the states. -/
theorem iter_rows (hh : ∀ b ch, s0.main_v78_3 (ix2 b ch) = (0 : EReal))
    (ha : ∀ (t : Fin 4096) b ch, s0.main_v78_0 (ix3 t b ch) = a b ch t) (hu : ∀ (t : Fin 4096) b ch, s0.main_v78_1 (ix3 t b ch) = u b ch t)
    (n : ℕ) (hn : n ≤ 4096) (k : Fin 4096) (hk : k.val < n) (b : Fin 8) (ch : Fin 256) :
    (iter s0 n).main_v78_4 (ix3 k b ch) = st (a b ch) (u b ch) 0 (k.val + 1) := by
  induction n with
  | zero => omega
  | succ n ih =>
    show (step n (iter s0 n)).main_v78_4 (ix3 k b ch) = _
    rw [step_main_v78_4]
    have e : b13 n (iter s0 n) (ix3 k b ch) = if k.val = n then b9 n (iter s0 n) (ix2 b ch) else (iter s0 n).main_v78_4 (ix3 k b ch) :=
      put_row _ _ n (by omega) _ _ rfl rfl k b ch
    rw [e]
    by_cases hkn : k.val = n
    · rw [if_pos hkn, hkn, ← step_main_v78_3]
      exact iter_state s0 a u hh ha hu (n + 1) hn b ch
    · rw [if_neg hkn]
      exact ih (by omega) (by omega)

/-- What the reference makes of the last state, at an index. -/
theorem ref_result (s : State Ideal) (z : FVec Ideal S8x4096x512 .f32) (b : Fin 8) (t : Fin 4096) (ch : Fin 256) :
    R_main_v94 s z (ix3 b t ch) = s.main_v78_4 (ix3 t b ch) * gelu (z (ix3 b t ⟨256 + ch.val, by omega⟩)) := by
  have e1 : transpose S8x4096x256 [1, 0, 2] s.main_v78_4 transposes_S4096x8x256_S8x4096x256_1_0_2 (ix3 b t ch) = s.main_v78_4 (ix3 t b ch) :=
    transpose_apply _ _ _ _ _ fun k => match k with | ⟨0, _⟩ => rfl | ⟨1, _⟩ => rfl | ⟨2, _⟩ => rfl
  have e2 : extractStridedSlice S8x4096x256 ![0, 0, 256] z slices_S8x4096x512_S8x4096x256_0_0_256 (ix3 b t ch) = z (ix3 b t ⟨256 + ch.val, by omega⟩) :=
    extractStridedSlice_apply _ _ _ _ _ fun q => match q with | ⟨0, _⟩ => (Nat.zero_add _).symm | ⟨1, _⟩ => (Nat.zero_add _).symm | ⟨2, _⟩ => rfl
  show transpose S8x4096x256 [1, 0, 2] s.main_v78_4 transposes_S4096x8x256_S8x4096x256_1_0_2 (ix3 b t ch)
    * (extractStridedSlice S8x4096x256 ![0, 0, 256] z slices_S8x4096x512_S8x4096x256_0_0_256 (ix3 b t ch) * (Ideal.ofBits .f32 0x3F000000#32
      * (Ideal.ofBits .f32 0x3F800000#32 + Ideal.tanh (Ideal.ofBits .f32 0x3F4C422A#32 * (extractStridedSlice S8x4096x256 ![0, 0, 256] z slices_S8x4096x512_S8x4096x256_0_0_256 (ix3 b t ch)
        + Ideal.ofBits .f32 0x3D372713#32 * (extractStridedSlice S8x4096x256 ![0, 0, 256] z slices_S8x4096x512_S8x4096x256_0_0_256 (ix3 b t ch)
          * extractStridedSlice S8x4096x256 ![0, 0, 256] z slices_S8x4096x512_S8x4096x256_0_0_256 (ix3 b t ch)
          * extractStridedSlice S8x4096x256 ![0, 0, 256] z slices_S8x4096x512_S8x4096x256_0_0_256 (ix3 b t ch))))))) = _
  rw [e1, e2]
  rw [Ideal.ofBits_one_f32]
  unfold gelu
  rw [← mul_assoc (z _) (Ideal.ofBits .f32 0x3F000000#32), mul_comm (z _) (Ideal.ofBits .f32 0x3F000000#32)]

/-- The reference's states, from its arguments. -/
abbrev iterOf (m : (ℓ : Loc nD τ sig) → Buf (Elt Ideal) ℓ) (c : Dev nD) (n : ℕ) : State Ideal := iter (Cert.LruRun.initState m c) n

/-- The reference's result at an index. -/
theorem ref_value (m : (ℓ : Loc nD τ sig) → Buf (Elt Ideal) ℓ) (c : Dev nD) (b : Fin 8) (t : Fin 4096) (ch : Fin 256) :
    R_main_v94 (iterOf m c 4096) (m ((c.tc : Thread nD τ).loc main_arg0)) (ix3 b t ch)
      = mixed (m ((c.tc : Thread nD τ).loc main_arg0)) (m ((c.tc : Thread nD τ).loc main_arg1)) (rowOf (m ((c.tc : Thread nD τ).loc main_arg2)))
        (gateWeights (m ((c.tc : Thread nD τ).loc main_arg3)) (m ((c.tc : Thread nD τ).loc main_arg5)))
        (gateBias (m ((c.tc : Thread nD τ).loc main_arg4)) (m ((c.tc : Thread nD τ).loc main_arg6)))
        (rowOf (m ((c.tc : Thread nD τ).loc main_arg7))) b t ch := by
  rw [ref_result]
  unfold mixed
  refine congrArg (· * _) ?_
  exact iter_rows (Cert.LruRun.initState m c)
    (fun b ch r => Ideal.exp (laAt (convAt (rowsG (m ((c.tc : Thread nD τ).loc main_arg0)) b) (m ((c.tc : Thread nD τ).loc main_arg1)) (rowOf (m ((c.tc : Thread nD τ).loc main_arg2))) r)
      (gateWeights (m ((c.tc : Thread nD τ).loc main_arg3)) (m ((c.tc : Thread nD τ).loc main_arg5)))
      (gateBias (m ((c.tc : Thread nD τ).loc main_arg4)) (m ((c.tc : Thread nD τ).loc main_arg6))) (rowOf (m ((c.tc : Thread nD τ).loc main_arg7))) ch))
    (fun b ch r => uAt (convAt (rowsG (m ((c.tc : Thread nD τ).loc main_arg0)) b) (m ((c.tc : Thread nD τ).loc main_arg1)) (rowOf (m ((c.tc : Thread nD τ).loc main_arg2))) r)
      (gateWeights (m ((c.tc : Thread nD τ).loc main_arg3)) (m ((c.tc : Thread nD τ).loc main_arg5)))
      (gateBias (m ((c.tc : Thread nD τ).loc main_arg4)) (m ((c.tc : Thread nD τ).loc main_arg6))) (rowOf (m ((c.tc : Thread nD τ).loc main_arg7))) ch)
    (fun b ch => Ideal.ofBits_zero_f32) (fun t b ch => ref_decay _ _ _ _ _ _ _ _ b t ch) (fun t b ch => ref_input _ _ _ _ _ _ _ _ b t ch)
    4096 le_rfl t t.isLt b ch

/-- The two programs' results agree. -/
theorem algebraic_lru : @Cert.algebraic_KernelIdeal_ReferenceIdeal Cert.KernelIdeal.Gen.facts Cert.ReferenceIdeal.Gen.facts := by
  intro m g m' g' _ hargs
  refine ⟨fun c => Cert.KernelIdeal.Value.G6 m c, Cert.KernelIdeal.Value.run m g, ?_⟩
  refine (θ_run _ _ _).mono (fun r h c => ⟨(h c).1.trans ?_, (h c).2⟩)
    (Cert.LruRun.run_iter m' g' (iterOf m') (fun _ => rfl) (fun _ _ => rfl))
  obtain ⟨h0, h1, h2, h3, h4, h5, h6, h7⟩ := hargs c
  refine funext fun i => ?_
  obtain ⟨b, t, ch, rfl⟩ : ∃ (b : Fin 8) (t : Fin 4096) (ch : Fin 256), i = ix3 b t ch := ⟨i 0, i 1, i 2, eq_ix3 i⟩
  refine (ref_value m' c b t ch).trans (Eq.trans ?_ (kernel_value m c b t ch).symm)
  rw [h0, h1, h2, h3, h4, h5, h6, h7]

end Cert.Lru
-- ==== Proof.Rows.lean ====
/- Rows of 1024 entries: the root-mean-square norm and products with matrices, as functions of a row, and the vector
   operations of kernel and host code that compute them. -/
module

public import Idealize.ShloMosaic.Lib.MatmulPlain
public import Idealize.ShloMosaic.Lib.IdealHost
public import Idealize.ShloMosaic.Lib.KernelVsHost
public import Idealize.ShloMosaic.Lib.Pointwise
public import Idealize.ShloMosaic.Lib.Pipeline.ValueKit

@[expose] public section
set_option maxRecDepth 65536
noncomputable section
namespace Cert.Rows
open Idealize.ShloMosaic hiding ix1 ix2 ix3 ix4 ix5 eq_ix1 eq_ix2 eq_ix3 eq_ix4 eq_ix5
open Idealize.ShloMosaic.ValueIdx

/-- A row times a matrix. -/
def dotv {K N : ℕ} (v : Fin K → EReal) (w : Fin K → Fin N → EReal) (j : Fin N) : EReal := ∑ k, v k * w k j

/-- The root-mean-square norm of a row, times a gain. -/
def rms (v g : Fin 1024 → EReal) (j : Fin 1024) : EReal :=
  v j * Ideal.rsqrt (Ideal.div (∑ k, v k * v k) (Ideal.ofBits .f32 0x44800000#32) + Ideal.ofBits .f32 0x358637BD#32) * g j

/-- A matrix by its rows and columns. -/
abbrev mat {a b : ℕ} {e : FTy} (X : FVec Ideal ⟨2, ![a, b]⟩ e) (i : Fin a) (j : Fin b) : EReal := X (ix2 i j)

/-- A vector's entries. -/
abbrev vec {n : ℕ} (X : FVec Ideal ⟨1, ![n]⟩ .f32) (i : Fin n) : EReal := X (ix1 i)

/-- A vector laid out as one row. -/
theorem row_at (g : FVec Ideal ⟨1, ![1024]⟩ .f32) (h : (⟨1, ![1024]⟩ : Shape).ShapeCasts ⟨2, ![1, 1024]⟩) (k : Fin 1024) : shapeCast ⟨2, ![1, 1024]⟩ g h (ix2 0 k) = g (ix1 k) :=
  shapeCast_apply _ _ _ _ (by rw [Shape.rowMajor_val_two, Shape.rowMajor_val_one]; show k.val = 0 * 1024 + k.val; omega)

/-- A block as large as its array, at block index zero, is placed where it lies. -/
theorem emb_whole {s : Shape} (i j : s.Idx) (f : Fin s.rank → ℕ) (hf : ∀ a, f a = 0) (h : ∀ a, (i a).val = f a * s.size a + 1 * (j a).val) : i = j :=
  funext fun a => Fin.ext (by rw [h a, hf a]; omega)

/-- The kernel's norm of `n` rows is the norm of each row. -/
theorem kernel_rms {n : ℕ} (X : FVec Ideal ⟨2, ![n, 1024]⟩ .f32) (G : FVec Ideal ⟨2, ![1, 1024]⟩ .f32)
    (h1 : (⟨2, ![n, 1024]⟩ : Shape).Reduces [1] ⟨1, ![n]⟩) (h2 : (⟨1, ![n]⟩ : Shape).ShapeCasts ⟨2, ![n, 1]⟩)
    (h3 : (⟨2, ![n, 1]⟩ : Shape).Broadcasts ⟨2, ![n, 1024]⟩) (h4 : (⟨2, ![1, 1024]⟩ : Shape).Broadcasts ⟨2, ![n, 1024]⟩)
    (hf : FKind.Formats .f32) (ha : (0x00000000#32 : BitVec 32) = FKind.add.neutral .f32 hf) (r : Fin n) (j : Fin 1024) :
    mulf (mulf X (broadcastTo ⟨2, ![n, 1024]⟩ (rsqrt (addf (divf (shapeCast ⟨2, ![n, 1]⟩ (multiReduction .add [1] ⟨1, ![n]⟩ (mulf X X) 0x00000000#32 h1 hf ha) h2)
        (broadcast ⟨2, ![n, 1]⟩ (Scalar.ofBits (F := Ideal) .f32 0x44800000#32))) (broadcast ⟨2, ![n, 1]⟩ (Scalar.ofBits (F := Ideal) .f32 0x358637BD#32)))) h3))
        (broadcastTo ⟨2, ![n, 1024]⟩ G h4) (ix2 r j)
      = rms (fun k => X (ix2 r k)) (fun k => G (ix2 0 k)) j := by
  have e1 : shapeCast ⟨2, ![n, 1]⟩ (multiReduction .add [1] ⟨1, ![n]⟩ (mulf X X) 0x00000000#32 h1 hf ha) h2 (ix2 r 0) = ∑ k : Fin 1024, X (ix2 r k) * X (ix2 r k) := by
    rw [shapeCast_apply _ _ _ (ix1 r) (by rw [Shape.rowMajor_val_two, Shape.rowMajor_val_one]; show r.val = r.val * 1 + 0; omega)]
    exact Ideal.reduceAdd_r2_a1 h1 _ (ix1 r)
  have e2 : ∀ (Y : FVec Ideal ⟨2, ![n, 1]⟩ .f32), broadcastTo ⟨2, ![n, 1024]⟩ Y h3 (ix2 r j) = Y (ix2 r 0) := fun Y =>
    broadcastTo_apply _ _ _ _ fun q => match q with
      | ⟨0, _⟩ => by
        show r.val = if n = 1 then 0 else r.val
        split
        · omega
        · rfl
      | ⟨1, _⟩ => rfl
  have e3 : broadcastTo ⟨2, ![n, 1024]⟩ G h4 (ix2 r j) = G (ix2 0 j) :=
    broadcastTo_apply _ _ _ _ fun q => match q with | ⟨0, _⟩ => rfl | ⟨1, _⟩ => rfl
  show X (ix2 r j) * broadcastTo ⟨2, ![n, 1024]⟩ _ h3 (ix2 r j) * broadcastTo ⟨2, ![n, 1024]⟩ G h4 (ix2 r j) = _
  rw [e2, e3]
  unfold rms
  rw [← e1]
  rfl

/-- The host's norm of `n` rows is the norm of each row. -/
theorem host_rms {n : ℕ} (hn : n ≠ 1) (X : FVec Ideal ⟨2, ![n, 1024]⟩ .f32) (G : FVec Ideal ⟨1, ![1024]⟩ .f32)
    (h1 : (⟨2, ![n, 1024]⟩ : Shape).ReducesTo [1] ⟨1, ![n]⟩) (h0 : 0 < (⟨0, ![]⟩ : Shape).numel) (h2 : (⟨1, ![n]⟩ : Shape).BroadcastsInDim ⟨2, ![n, 1]⟩ ![0])
    (hc : (⟨0, ![]⟩ : Shape).BroadcastsInDim ⟨2, ![n, 1]⟩ ![])
    (h3 : (⟨2, ![n, 1]⟩ : Shape).BroadcastsInDim ⟨2, ![n, 1024]⟩ ![0, 1]) (h4 : (⟨1, ![1024]⟩ : Shape).BroadcastsInDim ⟨2, ![1, 1024]⟩ ![1])
    (h5 : (⟨2, ![1, 1024]⟩ : Shape).BroadcastsInDim ⟨2, ![n, 1024]⟩ ![0, 1]) (r : Fin n) (j : Fin 1024) :
    mulf (mulf X (broadcastInDim ⟨2, ![n, 1024]⟩ ![0, 1] h3 (Host.rsqrt (addf (Host.divf
        (broadcastInDim ⟨2, ![n, 1]⟩ ![0] h2 (Host.reduceAdd (mulf X X) (constant (F := Ideal) ⟨0, ![]⟩ .f32 0x00000000#32) h1 h0))
        (broadcastInDim ⟨2, ![n, 1]⟩ ![] hc (constant (F := Ideal) ⟨0, ![]⟩ .f32 0x44800000#32)))
        (broadcastInDim ⟨2, ![n, 1]⟩ ![] hc (constant (F := Ideal) ⟨0, ![]⟩ .f32 0x358637BD#32))))))
        (broadcastInDim ⟨2, ![n, 1024]⟩ ![0, 1] h5 (broadcastInDim ⟨2, ![1, 1024]⟩ ![1] h4 G)) (ix2 r j)
      = rms (fun k => X (ix2 r k)) (fun k => G (ix1 k)) j := by
  have e1 : broadcastInDim ⟨2, ![n, 1]⟩ ![0] h2 (Host.reduceAdd (mulf X X) (constant (F := Ideal) ⟨0, ![]⟩ .f32 0x00000000#32) h1 h0) (ix2 r 0) = ∑ k : Fin 1024, X (ix2 r k) * X (ix2 r k) := by
    rw [broadcastInDim_apply _ _ _ _ (ix1 r) fun q => match q with | ⟨0, _⟩ => (if_neg hn).symm]
    rw [hostReduceAdd_apply]
    refine (Ideal.hostReduceAdd_r2_a1 h1 _ _ (ix1 r)).trans ?_
    show Ideal.ofBits .f32 0x00000000#32 + _ = _
    rw [Ideal.ofBits_zero_f32, zero_add]
    rfl
  have e2 : ∀ (Y : FVec Ideal ⟨2, ![n, 1]⟩ .f32), broadcastInDim ⟨2, ![n, 1024]⟩ ![0, 1] h3 Y (ix2 r j) = Y (ix2 r 0) := fun Y =>
    broadcastInDim_apply _ _ _ _ _ fun q => match q with | ⟨0, _⟩ => (if_neg hn).symm | ⟨1, _⟩ => rfl
  have e3 : broadcastInDim ⟨2, ![n, 1024]⟩ ![0, 1] h5 (broadcastInDim ⟨2, ![1, 1024]⟩ ![1] h4 G) (ix2 r j) = G (ix1 j) := by
    rw [broadcastInDim_apply _ _ _ _ (ix2 0 j) fun q => match q with | ⟨0, _⟩ => rfl | ⟨1, _⟩ => rfl]
    exact broadcastInDim_apply _ _ _ _ _ fun q => match q with | ⟨0, _⟩ => rfl
  rw [ValueIdx.mulf_apply, ValueIdx.mulf_apply, e2, e3]
  unfold rms
  rw [← e1]
  rfl

/-- The kernel's product of `M` rows with a matrix is the product of each row. -/
theorem kernel_dot {M K N : ℕ} {φ₁ φ₂ : FTy} (lhs : FVec Ideal ⟨2, ![M, K]⟩ φ₁) (rhs : FVec Ideal ⟨2, ![K, N]⟩ φ₂) (r : Fin M) (j : Fin N) :
    matmul (DotDims.plain M K N) none lhs rhs (constant (F := Ideal) ⟨2, ![M, N]⟩ .f32 0x00000000#32) (ix2 r j)
      = dotv (fun k => lhs (ix2 r k)) (fun k j => rhs (ix2 k j)) j := by
  refine (Ideal.matmul_plain_apply none lhs rhs _ r j).trans ?_
  show Ideal.ofBits .f32 0x00000000#32 + _ = _
  rw [Ideal.ofBits_zero_f32, zero_add]
  rfl

/-- The host's product of `M` rows with a matrix is the product of each row. -/
theorem host_dot {M K N : ℕ} (lhs : FVec Ideal ⟨2, ![M, K]⟩ .f32) (rhs : FVec Ideal ⟨2, ![K, N]⟩ .f32) (r : Fin M) (j : Fin N) :
    Host.dotGeneral (DotDims.plain M K N) none lhs rhs (ix2 r j) = dotv (fun k => lhs (ix2 r k)) (fun k j => rhs (ix2 k j)) j := by
  refine (Ideal.matmul_plain_apply (φ₁ := .f32) (φ₂ := .f32) none lhs rhs (fun _ => (0 : EReal)) r j).trans ?_
  exact zero_add _

/-- A row of three parts times a matrix: the parts times the matrix's three bands of rows, added. -/
theorem dotv_parts {a b c n N : ℕ} (h : n = a + b + c) (v : Fin n → EReal) (w : Fin n → Fin N → EReal) (j : Fin N) :
    dotv v w j = dotv (fun k : Fin a => v ⟨k, by omega⟩) (fun k => w ⟨k, by omega⟩) j
      + dotv (fun k : Fin b => v ⟨a + k, by omega⟩) (fun k => w ⟨a + k, by omega⟩) j
      + dotv (fun k : Fin c => v ⟨a + b + k, by omega⟩) (fun k => w ⟨a + b + k, by omega⟩) j := by
  subst h
  unfold dotv
  rw [Fin.sum_univ_add, Fin.sum_univ_add]
  rfl

/-- A row of four parts times a matrix: the parts times the matrix's four bands of rows, added. -/
theorem dotv_parts4 {a b c d n N : ℕ} (h : n = a + b + c + d) (v : Fin n → EReal) (w : Fin n → Fin N → EReal) (j : Fin N) :
    dotv v w j = dotv (fun k : Fin a => v ⟨k, by omega⟩) (fun k => w ⟨k, by omega⟩) j
      + dotv (fun k : Fin b => v ⟨a + k, by omega⟩) (fun k => w ⟨a + k, by omega⟩) j
      + dotv (fun k : Fin c => v ⟨a + b + k, by omega⟩) (fun k => w ⟨a + b + k, by omega⟩) j
      + dotv (fun k : Fin d => v ⟨a + b + c + k, by omega⟩) (fun k => w ⟨a + b + c + k, by omega⟩) j := by
  subst h
  unfold dotv
  rw [Fin.sum_univ_add, Fin.sum_univ_add, Fin.sum_univ_add]
  rfl

/-- Three rows side by side. -/
def cat3 (a b : Fin 256 → EReal) (c : Fin 512 → EReal) (k : Fin 1024) : EReal :=
  if h : k.val < 256 then a ⟨k, h⟩ else if h' : k.val < 512 then b ⟨k - 256, by omega⟩ else c ⟨k - 512, by omega⟩

/-- Three rows side by side times a matrix: each row times its band of the matrix's rows, added. -/
theorem dotv_cat3 {N : ℕ} (a b : Fin 256 → EReal) (c : Fin 512 → EReal) (w : Fin 1024 → Fin N → EReal) (j : Fin N) :
    dotv (cat3 a b c) w j = dotv a (fun k => w ⟨k, by omega⟩) j + dotv b (fun k => w ⟨256 + k, by omega⟩) j
      + dotv c (fun k => w ⟨512 + k, by omega⟩) j := by
  have e1 : (fun k : Fin 256 => cat3 a b c ⟨k, by omega⟩) = a := funext fun k => by
    unfold cat3; rw [dif_pos (show k.val < 256 from k.isLt)]
  have e2 : (fun k : Fin 256 => cat3 a b c ⟨256 + k, by omega⟩) = b := funext fun k => by
    unfold cat3
    rw [dif_neg (show ¬ 256 + k.val < 256 by omega), dif_pos (show 256 + k.val < 512 by omega)]
    exact congrArg b (Fin.ext (by show 256 + k.val - 256 = k.val; omega))
  have e3 : (fun k : Fin 512 => cat3 a b c ⟨512 + k, by omega⟩) = c := funext fun k => by
    unfold cat3
    rw [dif_neg (show ¬ 512 + k.val < 256 by omega), dif_neg (show ¬ 512 + k.val < 512 by omega)]
    exact congrArg c (Fin.ext (by show 512 + k.val - 512 = k.val; omega))
  refine (dotv_parts (a := 256) (b := 256) (c := 512) rfl _ w j).trans ?_
  exact congrArg₂ (· + ·) (congrArg₂ (· + ·) (congrArg (fun v => dotv v (fun k : Fin 256 => w ⟨k, by omega⟩) j) e1) (congrArg (fun v => dotv v (fun k : Fin 256 => w ⟨256 + k, by omega⟩) j) e2))
    (congrArg (fun v => dotv v (fun k : Fin 512 => w ⟨512 + k, by omega⟩) j) e3)

/-- The squared positive part of a row times a matrix, the hidden row of the feed-forward block. -/
def hidden {K N : ℕ} (h : Fin K → EReal) (w : Fin K → Fin N → EReal) (k : Fin N) : EReal := max (dotv h w k) 0 * max (dotv h w k) 0

/-- A token's row after the mixers' output is projected, normed and added. -/
def mixRow (x o : Fin 1024 → EReal) (wo : Fin 1024 → Fin 1024 → EReal) (g : Fin 1024 → EReal) (j : Fin 1024) : EReal :=
  x j + rms (dotv o wo) g j

/-- A token's row after the feed-forward block's normed output is added. -/
def ffnRow (x gp : Fin 1024 → EReal) (w1 : Fin 1024 → Fin 4096 → EReal) (w2 : Fin 4096 → Fin 1024 → EReal) (g : Fin 1024 → EReal) (j : Fin 1024) : EReal :=
  x j + rms (dotv (hidden (rms x gp) w1) w2) g j

/-- A token's row after its per-layer embedding, projected, gated and normed, is added. -/
def pleRow (x : Fin 1024 → EReal) (wg : Fin 1024 → Fin 1024 → EReal) (p : Fin 256 → EReal) (wp : Fin 256 → Fin 1024 → EReal) (g : Fin 1024 → EReal) (j : Fin 1024) : EReal :=
  x j + rms (fun k => Ideal.logistic (dotv x wg k) * dotv p wp k) g j

/-- A load of a rectangle of a matrix, at an index: the matrix at the rectangle's corner plus the index. -/
theorem ld_at {Val : EltTy → Type} {e : EltTy} {a b m n : ℕ} (X : (⟨2, ![a, b]⟩ : Shape).Idx → Val e) (o0 o1 : ℕ) (inb) (h0 : o0 + m ≤ a) (h1 : o1 + n ≤ b) (i : Fin m) (j : Fin n) :
    View.ld X (Rect.unit (s := ⟨2, ![a, b]⟩) ![o0, o1] ![m, n] inb) (ix2 i j) = X (ix2 ⟨o0 + i, by omega⟩ ⟨o1 + j, by omega⟩) :=
  View.ld_unit_apply_of X _ _ _ _ _ fun q => match q with | ⟨0, _⟩ => rfl | ⟨1, _⟩ => rfl

end Cert.Rows
-- ==== Proof.TailBlock.lean ====
/- The tail kernel's output block at an index, as a function of one row of each input block. -/
module

public import proofs.«01_k».proof.Proof.Rows
public import proofs.«01_k».proof.Proof.Gen.Kernel2Ideal.Frame

@[expose] public section
set_option maxRecDepth 65536
noncomputable section
namespace Cert.Tail
open Idealize.ShloMosaic hiding ix1 ix2 ix3 ix4 ix5 eq_ix1 eq_ix2 eq_ix3 eq_ix4 eq_ix5
open Cert.Kernel2Ideal Cert.Kernel2Ideal.Gen Idealize.ShloMosaic.TcCoe Idealize.SL.Sem
open Idealize.ShloMosaic.ValueIdx Cert.Rows

/-- The product of 512 rows of 1024 entries with a matrix, the rows' form. -/
theorem dot_rows (X : FVec Ideal S512x1024 .bf16) (Y : FVec Ideal S1024x1024 .bf16) (r : Fin 512) (j : Fin 1024) :
    matmul dot_S512x1024_S1024x1024_S512x1024_1_0_0_1_n_n none X Y (constant (F := Ideal) S512x1024 .f32 0x00000000#32) (ix2 r j) = dotv (mat X r) (mat Y) j :=
  kernel_dot X Y r j

theorem pay2_at (a : Vec Ideal S512x256 .f32) (wa : Vec Ideal S256x1024 .bf16) (b : Vec Ideal S512x256 .f32) (wb : Vec Ideal S256x1024 .bf16)
    (d : Vec Ideal S512x512 .f32) (wd : Vec Ideal S512x1024 .bf16) (x : Vec Ideal S512x1024 .f32) (g : Vec Ideal S1x1024 .f32) (r : Fin 512) (j : Fin 1024) :
    k0_pay2 (F := Ideal) a wa b wb d wd x g (ix2 r j)
      = x (ix2 r j) + rms (fun i => dotv (mat (e := .f32) a r) (mat (e := .bf16) wa) i + dotv (mat (e := .f32) b r) (mat (e := .bf16) wb) i + dotv (mat (e := .f32) d r) (mat (e := .bf16) wd) i) (mat (e := .f32) g 0) j := by
  unfold k0_pay2
  dsimp only
  simp only [shapeCast_self]
  rw [ValueIdx.addf_apply]
  refine congrArg (fun v : EReal => x (ix2 r j) + v) ((kernel_rms _ g _ _ _ _ _ _ r j).trans ?_)
  refine congrArg (fun v => rms v (mat (e := .f32) g 0) j) (funext fun i => ?_)
  exact congrArg₂ (· + ·) (congrArg₂ (· + ·) (kernel_dot (φ₁ := .bf16) (φ₂ := .bf16) a wa r i) (kernel_dot (φ₁ := .bf16) (φ₂ := .bf16) b wb r i)) (kernel_dot (φ₁ := .bf16) (φ₂ := .bf16) d wd r i)

theorem pay3_eq (g : Vec Ideal S1x1024 .f32) : k0_pay3 (F := Ideal) g = g := shapeCast_self _ _

theorem pay4_at (x : FVec Ideal S512x1024 .f32) (g : FVec Ideal S1x1024 .f32) (r : Fin 512) (j : Fin 1024) :
    k0_pay4 (F := Ideal) x g (ix2 r j) = rms (mat x r) (mat g 0) j :=
  kernel_rms x g reduces_S512x1024_S512 shapeCasts_S512_S512x1 broadcasts_S512x1_S512x1024 broadcasts_S1x1024_S512x1024 (.inl rfl) rfl r j

theorem pay6_at (x : FVec Ideal S512x1024 .f32) (g : FVec Ideal S1x1024 .f32) (w : Vec Ideal S1024x1024 .bf16) (r : Fin 512) (j : Fin 1024) :
    k0_pay6 (F := Ideal) x g w (ix2 r j) = max (dotv (rms (mat x r) (mat g 0)) (mat (e := .bf16) w) j) 0 := by
  unfold k0_pay6
  simp only [shapeCast_self]
  rw [ValueIdx.maximumf_apply, dot_rows]
  refine congrArg₂ max (congrArg (fun v => dotv v _ j) (funext fun k => pay4_at x g r k)) Ideal.ofBits_zero_f32

/-- The squared positive part of the rows times a band of columns, times a band of rows. -/
theorem band_at (H : FVec Ideal S512x1024 .bf16) (v : Fin 1024 → EReal) (r : Fin 512) (hH : ∀ k, H (ix2 r k) = v k) (wu wd : FVec Ideal S1024x1024 .bf16) (j : Fin 1024)
    (Z : FVec Ideal S512x1024 .f32) (hZ : Z = broadcast S512x1024 (Scalar.ofBits (F := Ideal) .f32 0x00000000#32)) :
    matmul dot_S512x1024_S1024x1024_S512x1024_1_0_0_1_n_n none
        (truncf .bf16 (mulf (maximumf (matmul dot_S512x1024_S1024x1024_S512x1024_1_0_0_1_n_n none H wu (constant (F := Ideal) S512x1024 .f32 0x00000000#32)) Z)
          (maximumf (matmul dot_S512x1024_S1024x1024_S512x1024_1_0_0_1_n_n none H wu (constant (F := Ideal) S512x1024 .f32 0x00000000#32)) Z)) bitsLt_bf16_f32)
        wd (constant (F := Ideal) S512x1024 .f32 0x00000000#32) (ix2 r j)
      = dotv (hidden v (mat wu)) (mat wd) j := by
  subst hZ
  rw [dot_rows]
  have e : ∀ k, maximumf (matmul dot_S512x1024_S1024x1024_S512x1024_1_0_0_1_n_n none H wu (constant (F := Ideal) S512x1024 .f32 0x00000000#32)) (broadcast S512x1024 (Scalar.ofBits (F := Ideal) .f32 0x00000000#32)) (ix2 r k)
      = max (dotv v (mat wu) k) 0 := fun k => by
    rw [ValueIdx.maximumf_apply, dot_rows]
    exact congrArg₂ max (congrArg (fun v => dotv v _ k) (funext hH)) Ideal.ofBits_zero_f32
  exact congrArg (fun v => dotv v (mat wd) j) (funext fun k => congrArg₂ (· * ·) (e k) (e k))

theorem pay5_at (x : FVec Ideal S512x1024 .f32) (g : FVec Ideal S1x1024 .f32) (u0 d0 u1 d1 : Vec Ideal S1024x1024 .bf16) (r : Fin 512) (j : Fin 1024) :
    k0_pay5 (F := Ideal) x g u0 d0 u1 d1 (ix2 r j)
      = dotv (hidden (rms (mat x r) (mat g 0)) (mat (e := .bf16) u0)) (mat (e := .bf16) d0) j + dotv (hidden (rms (mat x r) (mat g 0)) (mat (e := .bf16) u1)) (mat (e := .bf16) d1) j := by
  unfold k0_pay5
  simp only [shapeCast_self]
  rw [ValueIdx.addf_apply, band_at _ _ r (pay4_at x g r) _ _ j _ rfl, band_at _ _ r (pay4_at x g r) _ _ j _ rfl]

/-- The rows after the feed-forward block, its four bands added in turn. -/
theorem pay7_at (x : FVec Ideal S512x1024 .f32) (gp : FVec Ideal S1x1024 .f32) (u0 d0 u1 d1 u2 d2 u3 d3 : Vec Ideal S1024x1024 .bf16) (g : Vec Ideal S1x1024 .f32) (r : Fin 512) (j : Fin 1024) :
    k0_pay7 (F := Ideal) x (k0_pay4 x gp) (k0_pay5 x gp u0 d0 u1 d1) (k0_pay6 x gp u2) d2 u3 d3 g (ix2 r j)
      = x (ix2 r j) + rms (fun i => dotv (hidden (rms (mat x r) (mat gp 0)) (mat (e := .bf16) u0)) (mat (e := .bf16) d0) i + dotv (hidden (rms (mat x r) (mat gp 0)) (mat (e := .bf16) u1)) (mat (e := .bf16) d1) i
          + dotv (hidden (rms (mat x r) (mat gp 0)) (mat (e := .bf16) u2)) (mat (e := .bf16) d2) i + dotv (hidden (rms (mat x r) (mat gp 0)) (mat (e := .bf16) u3)) (mat (e := .bf16) d3) i) (mat (e := .f32) g 0) j := by
  unfold k0_pay7
  dsimp only
  simp only [shapeCast_self]
  rw [ValueIdx.addf_apply]
  refine congrArg (fun v : EReal => x (ix2 r j) + v) ((kernel_rms _ g _ _ _ _ _ _ r j).trans ?_)
  refine congrArg (fun v => rms v (mat (e := .f32) g 0) j) (funext fun i => ?_)
  rw [ValueIdx.addf_apply, ValueIdx.addf_apply, pay5_at, band_at _ _ r (pay4_at x gp r) _ _ i _ rfl, dot_rows]
  refine congrArg (fun v => _ + dotv v (mat (e := .bf16) d2) i + _) (funext fun k => ?_)
  exact congrArg₂ (· * ·) (pay6_at x gp u2 r k) (pay6_at x gp u2 r k)

/-- The rows after the per-layer embedding. -/
theorem pay1_at (x : FVec Ideal S512x1024 .f32) (wg : Vec Ideal S1024x1024 .bf16) (E : FVec Ideal S512x1024 .f32) (r : Fin 512) (hE : ∀ k, E (ix2 r k) = Ideal.logistic (dotv (mat x r) (mat (e := .bf16) wg) k))
    (p : Vec Ideal S512x256 .f32) (wp : Vec Ideal S256x1024 .bf16) (g : Vec Ideal S1x1024 .f32) (j : Fin 1024) :
    k0_pay1 (F := Ideal) x E p wp g (ix2 r j) = pleRow (mat x r) (mat (e := .bf16) wg) (mat (e := .f32) p r) (mat (e := .bf16) wp) (mat (e := .f32) g 0) j := by
  unfold k0_pay1
  dsimp only
  simp only [shapeCast_self]
  rw [ValueIdx.addf_apply]
  refine congrArg (fun v : EReal => x (ix2 r j) + v) ((kernel_rms _ g _ _ _ _ _ _ r j).trans ?_)
  refine congrArg (fun v => rms v (mat (e := .f32) g 0) j) (funext fun i => ?_)
  exact congrArg₂ (· * ·) (hE i) (kernel_dot (φ₁ := .bf16) (φ₂ := .bf16) p wp r i)

theorem pay8_at (x : FVec Ideal S512x1024 .f32) (h : FVec Ideal S512x1024 .bf16) (s t : FVec Ideal S512x1024 .f32) (d2 u3 d3 : Vec Ideal S1024x1024 .bf16) (g : Vec Ideal S1x1024 .f32) (wg : Vec Ideal S1024x1024 .bf16) (r : Fin 512) (j : Fin 1024) :
    k0_pay8 (F := Ideal) x h s t d2 u3 d3 g wg (ix2 r j) = Ideal.logistic (dotv (mat (k0_pay7 (F := Ideal) x h s t d2 u3 d3 g) r) (mat (e := .bf16) wg) j) := by
  unfold k0_pay8
  simp only [shapeCast_self]
  exact congrArg Ideal.logistic (dot_rows (k0_pay7 (F := Ideal) x h s t d2 u3 d3 g) wg r j)

/-- The output block at row `r`, column `j`: the tail of row `r`. -/
theorem out_at (x0 x1 : Vec Ideal S512x256 .f32) (x2 : Vec Ideal S512x512 .f32) (x3 : Vec Ideal S512x1024 .f32) (x4 : Vec Ideal S512x256 .f32) (x5 : Vec Ideal S1024x1024 .bf16) (x6 x7 : Vec Ideal S1x1024 .f32)
    (x8 : Vec Ideal S1024x4096 .bf16) (x9 : Vec Ideal S4096x1024 .bf16) (x10 : Vec Ideal S1x1024 .f32) (x11 : Vec Ideal S1024x1024 .bf16) (x12 : Vec Ideal S256x1024 .bf16) (x13 : Vec Ideal S1x1024 .f32) (r : Fin 512) (j : Fin 1024) :
    out0_14 (F := Ideal) x0 x1 x2 x3 x4 x5 x6 x7 x8 x9 x10 x11 x12 x13 (ix2 r j)
      = pleRow (ffnRow (mixRow (mat (e := .f32) x3 r) (cat3 (mat (e := .f32) x0 r) (mat (e := .f32) x1 r) (mat (e := .f32) x2 r)) (mat (e := .bf16) x5) (mat (e := .f32) x6 0))
          (mat (e := .f32) x7 0) (mat (e := .bf16) x8) (mat (e := .bf16) x9) (mat (e := .f32) x10 0)) (mat (e := .bf16) x11) (mat (e := .f32) x4 r) (mat (e := .bf16) x12) (mat (e := .f32) x13 0) j := by
  unfold_out out0_14
  rw [View.canon_cons_unit_lit _ _ _ (by decide)]
  rw [pay1_at _ (View.ld x11 r0_15) _ r (fun k => pay8_at _ _ _ _ _ _ _ _ _ r k), pay3_eq]
  rw [View.ld_unit_lit _ x0 (by decide), View.ld_unit_lit _ x1 (by decide), View.ld_unit_lit _ x2 (by decide), View.ld_unit_lit _ x3 (by decide), View.ld_unit_lit _ x4 (by decide), View.ld_unit_lit _ x6 (by decide),
    View.ld_unit_lit _ x7 (by decide), View.ld_unit_lit _ x10 (by decide), View.ld_unit_lit _ x11 (by decide), View.ld_unit_lit _ x12 (by decide), View.ld_unit_lit _ x13 (by decide)]
  refine congrArg (fun v => pleRow v (mat (e := .bf16) x11) (mat (e := .f32) x4 r) (mat (e := .bf16) x12) (mat (e := .f32) x13 0) j) (funext fun i => ?_)
  have em : mat (k0_pay2 (F := Ideal) x0 (View.ld x5 r0_1) x1 (View.ld x5 r0_2) x2 (View.ld x5 r0_4) x3 x6) r
      = mixRow (mat (e := .f32) x3 r) (cat3 (mat (e := .f32) x0 r) (mat (e := .f32) x1 r) (mat (e := .f32) x2 r)) (mat (e := .bf16) x5) (mat (e := .f32) x6 0) := funext fun q => by
    refine (pay2_at _ _ _ _ _ _ _ _ r q).trans ?_
    refine congrArg (fun v => x3 (ix2 r q) + rms v (mat (e := .f32) x6 0) q) (funext fun i => ?_)
    rw [dotv_cat3]
    refine congrArg₂ (· + ·) (congrArg₂ (· + ·) ?_ ?_) ?_ <;> refine congrArg (fun w => dotv _ w i) (funext fun k => funext fun l => ?_)
    · refine (ld_at (Val := Elt Ideal) (e := .bf16) x5 0 0 _ (by omega) (by omega) k l).trans (congrArg x5 ?_)
      exact congrArg₂ ix2 (Fin.ext (Nat.zero_add _)) (Fin.ext (Nat.zero_add _))
    · refine (ld_at (Val := Elt Ideal) (e := .bf16) x5 256 0 _ (by omega) (by omega) k l).trans (congrArg x5 ?_)
      exact congrArg₂ ix2 rfl (Fin.ext (Nat.zero_add _))
    · refine (ld_at (Val := Elt Ideal) (e := .bf16) x5 512 0 _ (by omega) (by omega) k l).trans (congrArg x5 ?_)
      exact congrArg₂ ix2 rfl (Fin.ext (Nat.zero_add _))
  refine (pay7_at _ _ _ _ _ _ _ _ _ _ _ r i).trans ?_
  rw [em]
  have e0 := congrFun em i
  refine congrArg₂ (· + ·) e0 (congrArg (fun v => rms v (mat (e := .f32) x10 0) i) (funext fun q => ?_))
  rw [dotv_parts4 (a := 1024) (b := 1024) (c := 1024) (d := 1024) (n := 4096) rfl]
  have eu : ∀ (o : ℕ) (inb) (ho : o + 1024 ≤ 4096), mat (e := .bf16) (View.ld (x8 : S1024x4096.Idx → Elt Ideal .bf16) (Rect.unit (s := S1024x4096) ![0, o] S1024x1024.size inb)) = fun k (l : Fin 1024) => mat (e := .bf16) x8 k ⟨o + l, by omega⟩ := fun o inb ho =>
    funext fun k => funext fun l => (ld_at (Val := Elt Ideal) (e := .bf16) x8 0 o inb (by omega) ho k l).trans (congrArg x8 (congrArg₂ ix2 (Fin.ext (Nat.zero_add _)) rfl))
  have ed : ∀ (o : ℕ) (inb) (ho : o + 1024 ≤ 4096), mat (e := .bf16) (View.ld (x9 : S4096x1024.Idx → Elt Ideal .bf16) (Rect.unit (s := S4096x1024) ![o, 0] S1024x1024.size inb)) = fun (k : Fin 1024) l => mat (e := .bf16) x9 ⟨o + k, by omega⟩ l := fun o inb ho =>
    funext fun k => funext fun l => (ld_at (Val := Elt Ideal) (e := .bf16) x9 o 0 inb ho (by omega) k l).trans (congrArg x9 (congrArg₂ ix2 rfl (Fin.ext (Nat.zero_add _))))
  rw [eu 0 _ (by omega), eu 1024 _ (by omega), eu 2048 _ (by omega), eu 3072 _ (by omega), ed 0 _ (by omega), ed 1024 _ (by omega), ed 2048 _ (by omega), ed 3072 _ (by omega)]
  simp only [Nat.zero_add]
  rfl

end Cert.Tail
-- ==== Proof.TailArray.lean ====
/- The tail kernel's result array at an index, as a function of one row of each of the program's arguments. -/
module

public import proofs.«01_k».proof.Proof.TailBlock
public import proofs.«01_k».proof.Proof.Gen.Kernel2Ideal.Value

@[expose] public section
set_option maxRecDepth 65536
noncomputable section
namespace Cert.Tail
open Idealize.ShloMosaic hiding ix1 ix2 ix3 ix4 ix5 eq_ix1 eq_ix2 eq_ix3 eq_ix4 eq_ix5
open Cert.Kernel2Ideal Cert.Kernel2Ideal.Gen Idealize.ShloMosaic.TcCoe Idealize.SL.Sem Idealize.ShloMosaic.Tactic
open Idealize.ShloMosaic.ValueIdx Cert.Rows

/-- The tail of token `i`, from the mixers' outputs, the layer's input, the per-layer embeddings and the weights. -/
def tailOf (yml ylru : FVec Ideal S32768x256 .f32) (yrw : FVec Ideal S32768x512 .f32) (x : FVec Ideal S32768x1024 .f32) (p : FVec Ideal S65536x256 .f32)
    (wo : FVec Ideal S1024x1024 .f32) (gm gp : FVec Ideal S1024 .f32) (w1 : FVec Ideal S1024x4096 .f32) (w2 : FVec Ideal S4096x1024 .f32)
    (gf : FVec Ideal S1024 .f32) (wg : FVec Ideal S1024x1024 .f32) (wp : FVec Ideal S256x1024 .f32) (ge : FVec Ideal S1024 .f32) (i : Fin 32768) (j : Fin 1024) : EReal :=
  pleRow (ffnRow (mixRow (mat x i) (cat3 (mat yml i) (mat ylru i) (mat yrw i)) (mat wo) (vec gm)) (vec gp) (mat w1) (mat w2) (vec gf)) (mat wg)
    (mat p ⟨32768 + i, by omega⟩) (mat wp) (vec ge) j

variable (m : (ℓ : Loc nD τ sig) → Buf (Elt Ideal) ℓ) (c : Dev nD)

/-! ## The buffers the host fills before the launch -/

theorem V_v0 : (V m c main_v0 : S1024x1024.Idx → EReal) = (m (c, Proc.tc.devRef main_arg5) : FVec Ideal S1024x1024 .f32) := by
  show StableHlo.after hostOps0 (fun b => m (c, b)) (Proc.devRef .tc main_v0) = _
  after_results
  rfl
theorem V_v1 : V m c main_v1 = shapeCast S1x1024 (m (c, Proc.tc.devRef main_arg6) : FVec Ideal S1024 .f32) shapeCasts_S1024_S1x1024 := by
  show StableHlo.after hostOps0 (fun b => m (c, b)) (Proc.devRef .tc main_v1) = _
  after_results
  rfl
theorem V_v2 : V m c main_v2 = shapeCast S1x1024 (m (c, Proc.tc.devRef main_arg7) : FVec Ideal S1024 .f32) shapeCasts_S1024_S1x1024 := by
  show StableHlo.after hostOps0 (fun b => m (c, b)) (Proc.devRef .tc main_v2) = _
  after_results
  rfl
theorem V_v3 : (V m c main_v3 : S1024x4096.Idx → EReal) = (m (c, Proc.tc.devRef main_arg8) : FVec Ideal S1024x4096 .f32) := by
  show StableHlo.after hostOps0 (fun b => m (c, b)) (Proc.devRef .tc main_v3) = _
  after_results
  rfl
theorem V_v4 : (V m c main_v4 : S4096x1024.Idx → EReal) = (m (c, Proc.tc.devRef main_arg9) : FVec Ideal S4096x1024 .f32) := by
  show StableHlo.after hostOps0 (fun b => m (c, b)) (Proc.devRef .tc main_v4) = _
  after_results
  rfl
theorem V_v5 : V m c main_v5 = shapeCast S1x1024 (m (c, Proc.tc.devRef main_arg10) : FVec Ideal S1024 .f32) shapeCasts_S1024_S1x1024 := by
  show StableHlo.after hostOps0 (fun b => m (c, b)) (Proc.devRef .tc main_v5) = _
  after_results
  rfl
theorem V_v6 : (V m c main_v6 : S1024x1024.Idx → EReal) = (m (c, Proc.tc.devRef main_arg11) : FVec Ideal S1024x1024 .f32) := by
  show StableHlo.after hostOps0 (fun b => m (c, b)) (Proc.devRef .tc main_v6) = _
  after_results
  rfl
theorem V_v7 : (V m c main_v7 : S256x1024.Idx → EReal) = (m (c, Proc.tc.devRef main_arg12) : FVec Ideal S256x1024 .f32) := by
  show StableHlo.after hostOps0 (fun b => m (c, b)) (Proc.devRef .tc main_v7) = _
  after_results
  rfl
theorem V_v8 : V m c main_v8 = shapeCast S1x1024 (m (c, Proc.tc.devRef main_arg13) : FVec Ideal S1024 .f32) shapeCasts_S1024_S1x1024 := by
  show StableHlo.after hostOps0 (fun b => m (c, b)) (Proc.devRef .tc main_v8) = _
  after_results
  rfl

/-! ## The windows' blocks -/

theorem idx_rows : ∀ t : Fin cfg0.N, (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0)
    ∧ (win0_4.index t (0 : Fin 2) = 64 + t.val ∧ win0_4.index t (1 : Fin 2) = 0) ∧ (win0_14.index t (0 : Fin 2) = t.val ∧ win0_14.index t (1 : Fin 2) = 0) :=
  (by decide +kernel : ∀ t : Fin grid0.N, _)
theorem idx_whole : ∀ t : Fin cfg0.N, (∀ a, win0_5.index t a = 0) ∧ (∀ a, win0_6.index t a = 0) ∧ (∀ a, win0_7.index t a = 0) ∧ (∀ a, win0_8.index t a = 0) ∧ (∀ a, win0_9.index t a = 0)
    ∧ (∀ a, win0_10.index t a = 0) ∧ (∀ a, win0_11.index t a = 0) ∧ (∀ a, win0_12.index t a = 0) ∧ (∀ a, win0_13.index t a = 0) :=
  (by decide +kernel : ∀ t : Fin grid0.N, _)

/-- Row `r` of point `t`'s block of rows. -/
abbrev rowAt (t : Fin cfg0.N) (r : Fin 512) : Fin 32768 := ⟨512 * t.val + r.val, by have := lt_of_lt_of_eq t.isLt N_0; omega⟩

theorem iblk0_at (t : Fin cfg0.N) (r : Fin 512) : mat (e := .f32) (iblk m c 0 t) r = mat (e := .f32) (m (c, Proc.tc.devRef main_arg0) : FVec Ideal S32768x256 .f32) (rowAt t r) := by
  obtain ⟨⟨e0, e1⟩, -⟩ := idx_rows t
  funext j
  show V m c main_arg0 (((cfg0.win 0).blk t).view.emb (ix2 r j)) = _
  rw [V_main_arg0]
  refine congrArg (m (c, Proc.tc.devRef main_arg0) : FVec Ideal S32768x256 .f32) (funext fun a => Fin.ext ?_)
  match a with
  | ⟨0, _⟩ => show win0_0.index t (0 : Fin 2) * 512 + 1 * r.val = 512 * t.val + r.val; omega
  | ⟨1, _⟩ => show win0_0.index t (1 : Fin 2) * 256 + 1 * j.val = j.val; omega
theorem iblk1_at (t : Fin cfg0.N) (r : Fin 512) : mat (e := .f32) (iblk m c 1 t) r = mat (e := .f32) (m (c, Proc.tc.devRef main_arg1) : FVec Ideal S32768x256 .f32) (rowAt t r) := by
  obtain ⟨-, ⟨e0, e1⟩, -⟩ := idx_rows t
  funext j
  show V m c main_arg1 (((cfg0.win 1).blk t).view.emb (ix2 r j)) = _
  rw [V_main_arg1]
  refine congrArg (m (c, Proc.tc.devRef main_arg1) : FVec Ideal S32768x256 .f32) (funext fun a => Fin.ext ?_)
  match a with
  | ⟨0, _⟩ => show win0_1.index t (0 : Fin 2) * 512 + 1 * r.val = 512 * t.val + r.val; omega
  | ⟨1, _⟩ => show win0_1.index t (1 : Fin 2) * 256 + 1 * j.val = j.val; omega
theorem iblk2_at (t : Fin cfg0.N) (r : Fin 512) : mat (e := .f32) (iblk m c 2 t) r = mat (e := .f32) (m (c, Proc.tc.devRef main_arg2) : FVec Ideal S32768x512 .f32) (rowAt t r) := by
  obtain ⟨-, -, ⟨e0, e1⟩, -⟩ := idx_rows t
  funext j
  show V m c main_arg2 (((cfg0.win 2).blk t).view.emb (ix2 r j)) = _
  rw [V_main_arg2]
  refine congrArg (m (c, Proc.tc.devRef main_arg2) : FVec Ideal S32768x512 .f32) (funext fun a => Fin.ext ?_)
  match a with
  | ⟨0, _⟩ => show win0_2.index t (0 : Fin 2) * 512 + 1 * r.val = 512 * t.val + r.val; omega
  | ⟨1, _⟩ => show win0_2.index t (1 : Fin 2) * 512 + 1 * j.val = j.val; omega
theorem iblk3_at (t : Fin cfg0.N) (r : Fin 512) : mat (e := .f32) (iblk m c 3 t) r = mat (e := .f32) (m (c, Proc.tc.devRef main_arg3) : FVec Ideal S32768x1024 .f32) (rowAt t r) := by
  obtain ⟨-, -, -, ⟨e0, e1⟩, -⟩ := idx_rows t
  funext j
  show V m c main_arg3 (((cfg0.win 3).blk t).view.emb (ix2 r j)) = _
  rw [V_main_arg3]
  refine congrArg (m (c, Proc.tc.devRef main_arg3) : FVec Ideal S32768x1024 .f32) (funext fun a => Fin.ext ?_)
  match a with
  | ⟨0, _⟩ => show win0_3.index t (0 : Fin 2) * 512 + 1 * r.val = 512 * t.val + r.val; omega
  | ⟨1, _⟩ => show win0_3.index t (1 : Fin 2) * 1024 + 1 * j.val = j.val; omega
theorem iblk4_at (t : Fin cfg0.N) (r : Fin 512) : mat (e := .f32) (iblk m c 4 t) r = mat (e := .f32) (m (c, Proc.tc.devRef main_arg4) : FVec Ideal S65536x256 .f32) ⟨32768 + (rowAt t r).val, by omega⟩ := by
  obtain ⟨-, -, -, -, ⟨e0, e1⟩, -⟩ := idx_rows t
  funext j
  show V m c main_arg4 (((cfg0.win 4).blk t).view.emb (ix2 r j)) = _
  rw [V_main_arg4]
  refine congrArg (m (c, Proc.tc.devRef main_arg4) : FVec Ideal S65536x256 .f32) (funext fun a => Fin.ext ?_)
  match a with
  | ⟨0, _⟩ => show win0_4.index t (0 : Fin 2) * 512 + 1 * r.val = 32768 + (512 * t.val + r.val); omega
  | ⟨1, _⟩ => show win0_4.index t (1 : Fin 2) * 256 + 1 * j.val = j.val; omega

theorem iblk5_eq (t : Fin cfg0.N) : (iblk m c 5 t : S1024x1024.Idx → EReal) = (m (c, Proc.tc.devRef main_arg5) : FVec Ideal S1024x1024 .f32) :=
  (funext fun j => congrArg (V m c main_v0 : S1024x1024.Idx → EReal) (emb_whole _ j _ (idx_whole t).1 fun _ => rfl)).trans (V_v0 m c)
theorem iblk6_eq (t : Fin cfg0.N) : (iblk m c 6 t : FVec Ideal S1x1024 .f32) = shapeCast S1x1024 (m (c, Proc.tc.devRef main_arg6) : FVec Ideal S1024 .f32) shapeCasts_S1024_S1x1024 :=
  (funext fun j => congrArg (V m c main_v1 : FVec Ideal S1x1024 .f32) (emb_whole _ j _ (idx_whole t).2.1 fun _ => rfl)).trans (V_v1 m c)
theorem iblk7_eq (t : Fin cfg0.N) : (iblk m c 7 t : FVec Ideal S1x1024 .f32) = shapeCast S1x1024 (m (c, Proc.tc.devRef main_arg7) : FVec Ideal S1024 .f32) shapeCasts_S1024_S1x1024 :=
  (funext fun j => congrArg (V m c main_v2 : FVec Ideal S1x1024 .f32) (emb_whole _ j _ (idx_whole t).2.2.1 fun _ => rfl)).trans (V_v2 m c)
theorem iblk8_eq (t : Fin cfg0.N) : (iblk m c 8 t : S1024x4096.Idx → EReal) = (m (c, Proc.tc.devRef main_arg8) : FVec Ideal S1024x4096 .f32) :=
  (funext fun j => congrArg (V m c main_v3 : S1024x4096.Idx → EReal) (emb_whole _ j _ (idx_whole t).2.2.2.1 fun _ => rfl)).trans (V_v3 m c)
theorem iblk9_eq (t : Fin cfg0.N) : (iblk m c 9 t : S4096x1024.Idx → EReal) = (m (c, Proc.tc.devRef main_arg9) : FVec Ideal S4096x1024 .f32) :=
  (funext fun j => congrArg (V m c main_v4 : S4096x1024.Idx → EReal) (emb_whole _ j _ (idx_whole t).2.2.2.2.1 fun _ => rfl)).trans (V_v4 m c)
theorem iblk10_eq (t : Fin cfg0.N) : (iblk m c 10 t : FVec Ideal S1x1024 .f32) = shapeCast S1x1024 (m (c, Proc.tc.devRef main_arg10) : FVec Ideal S1024 .f32) shapeCasts_S1024_S1x1024 :=
  (funext fun j => congrArg (V m c main_v5 : FVec Ideal S1x1024 .f32) (emb_whole _ j _ (idx_whole t).2.2.2.2.2.1 fun _ => rfl)).trans (V_v5 m c)
theorem iblk11_eq (t : Fin cfg0.N) : (iblk m c 11 t : S1024x1024.Idx → EReal) = (m (c, Proc.tc.devRef main_arg11) : FVec Ideal S1024x1024 .f32) :=
  (funext fun j => congrArg (V m c main_v6 : S1024x1024.Idx → EReal) (emb_whole _ j _ (idx_whole t).2.2.2.2.2.2.1 fun _ => rfl)).trans (V_v6 m c)
theorem iblk12_eq (t : Fin cfg0.N) : (iblk m c 12 t : S256x1024.Idx → EReal) = (m (c, Proc.tc.devRef main_arg12) : FVec Ideal S256x1024 .f32) :=
  (funext fun j => congrArg (V m c main_v7 : S256x1024.Idx → EReal) (emb_whole _ j _ (idx_whole t).2.2.2.2.2.2.2.1 fun _ => rfl)).trans (V_v7 m c)
theorem iblk13_eq (t : Fin cfg0.N) : (iblk m c 13 t : FVec Ideal S1x1024 .f32) = shapeCast S1x1024 (m (c, Proc.tc.devRef main_arg13) : FVec Ideal S1024 .f32) shapeCasts_S1024_S1x1024 :=
  (funext fun j => congrArg (V m c main_v8 : FVec Ideal S1x1024 .f32) (emb_whole _ j _ (idx_whole t).2.2.2.2.2.2.2.2 fun _ => rfl)).trans (V_v8 m c)

/-- The tail of the launched buffers. -/
abbrev tailM (i : Fin 32768) (j : Fin 1024) : EReal :=
  tailOf (m (c, Proc.tc.devRef main_arg0)) (m (c, Proc.tc.devRef main_arg1)) (m (c, Proc.tc.devRef main_arg2)) (m (c, Proc.tc.devRef main_arg3)) (m (c, Proc.tc.devRef main_arg4))
    (m (c, Proc.tc.devRef main_arg5)) (m (c, Proc.tc.devRef main_arg6)) (m (c, Proc.tc.devRef main_arg7)) (m (c, Proc.tc.devRef main_arg8)) (m (c, Proc.tc.devRef main_arg9))
    (m (c, Proc.tc.devRef main_arg10)) (m (c, Proc.tc.devRef main_arg11)) (m (c, Proc.tc.devRef main_arg12)) (m (c, Proc.tc.devRef main_arg13)) i j

/-- What a grid point computes at row `r`, column `j` of its block. -/
theorem point_at (t : Fin cfg0.N) (r : Fin 512) (j : Fin 1024) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) (iblk m c 13 t) (ix2 r j) = tailM m c (rowAt t r) j := by
  refine (out_at _ _ _ _ _ _ _ _ _ _ _ _ _ _ r j).trans ?_
  rw [iblk0_at, iblk1_at, iblk2_at, iblk3_at, iblk4_at]
  have e6 : mat (e := .f32) (iblk m c 6 t) 0 = vec (m (c, Proc.tc.devRef main_arg6) : FVec Ideal S1024 .f32) := funext fun k => (congrFun (iblk6_eq m c t) (ix2 0 k)).trans (row_at _ _ k)
  have e7 : mat (e := .f32) (iblk m c 7 t) 0 = vec (m (c, Proc.tc.devRef main_arg7) : FVec Ideal S1024 .f32) := funext fun k => (congrFun (iblk7_eq m c t) (ix2 0 k)).trans (row_at _ _ k)
  have e10 : mat (e := .f32) (iblk m c 10 t) 0 = vec (m (c, Proc.tc.devRef main_arg10) : FVec Ideal S1024 .f32) := funext fun k => (congrFun (iblk10_eq m c t) (ix2 0 k)).trans (row_at _ _ k)
  have e13 : mat (e := .f32) (iblk m c 13 t) 0 = vec (m (c, Proc.tc.devRef main_arg13) : FVec Ideal S1024 .f32) := funext fun k => (congrFun (iblk13_eq m c t) (ix2 0 k)).trans (row_at _ _ k)
  have e5 : mat (e := .bf16) (iblk m c 5 t) = mat (e := .f32) (m (c, Proc.tc.devRef main_arg5) : FVec Ideal S1024x1024 .f32) := funext fun i => funext fun k => congrFun (iblk5_eq m c t) (ix2 i k)
  have e8 : mat (e := .bf16) (iblk m c 8 t) = mat (e := .f32) (m (c, Proc.tc.devRef main_arg8) : FVec Ideal S1024x4096 .f32) := funext fun i => funext fun k => congrFun (iblk8_eq m c t) (ix2 i k)
  have e9 : mat (e := .bf16) (iblk m c 9 t) = mat (e := .f32) (m (c, Proc.tc.devRef main_arg9) : FVec Ideal S4096x1024 .f32) := funext fun i => funext fun k => congrFun (iblk9_eq m c t) (ix2 i k)
  have e11 : mat (e := .bf16) (iblk m c 11 t) = mat (e := .f32) (m (c, Proc.tc.devRef main_arg11) : FVec Ideal S1024x1024 .f32) := funext fun i => funext fun k => congrFun (iblk11_eq m c t) (ix2 i k)
  have e12 : mat (e := .bf16) (iblk m c 12 t) = mat (e := .f32) (m (c, Proc.tc.devRef main_arg12) : FVec Ideal S256x1024 .f32) := funext fun i => funext fun k => congrFun (iblk12_eq m c t) (ix2 i k)
  rw [e5, e6, e7, e8, e9, e10, e11, e12, e13]
  rfl

/-- The result array at an index is the tail of the token's row. -/
theorem result_at (i : Fin 32768) (j : Fin 1024) : ((dats m 0 c).arrAt 14 cfg0.N : FVec Ideal S32768x1024 .f32) (ix2 i j) = tailM m c i j := by
  have ht : i.val / 512 < cfg0.N := by rw [show cfg0.N = 64 from N_0]; omega
  have e := congrFun (Value.blocks14 m c ⟨i.val / 512, ht⟩ (flush0_14 _)) (ix2 (⟨i.val % 512, by omega⟩ : Fin 512) j)
  rw [Value.flushed14] at e
  obtain ⟨-, -, -, -, -, f0, f1⟩ := idx_rows ⟨i.val / 512, ht⟩
  have hi : rowAt ⟨i.val / 512, ht⟩ ⟨i.val % 512, by omega⟩ = i := Fin.ext (by show 512 * (i.val / 512) + i.val % 512 = i.val; omega)
  have hp := point_at m c ⟨i.val / 512, ht⟩ ⟨i.val % 512, by omega⟩ j
  rw [hi] at hp
  refine Eq.trans ?_ (e.trans hp)
  refine congrArg ((dats m 0 c).arrAt 14 cfg0.N : FVec Ideal S32768x1024 .f32) (funext fun a => Fin.ext ?_)
  match a with
  | ⟨0, _⟩ => show i.val = win0_14.index ⟨i.val / 512, ht⟩ (0 : Fin 2) * 512 + 1 * (i.val % 512); rw [f0]; show i.val = i.val / 512 * 512 + 1 * (i.val % 512); omega
  | ⟨1, _⟩ => show j.val = win0_14.index ⟨i.val / 512, ht⟩ (1 : Fin 2) * 1024 + 1 * j.val; rw [f1]; omega

end Cert.Tail
-- ==== Proof.TailRef.lean ====
/- The reference's tail at an index, as the same function of one row of each argument, and the two programs' results joined. -/
module

public import proofs.«01_k».proof.Proof.TailArray
public import proofs.«01_k».proof.Proof.Gen.Reference2Ideal.Read
public import proofs.«01_k».proof.Proof.Gen.Reference2Ideal.Run
public import proofs.«01_k».proof.Defs

@[expose] public section
set_option maxRecDepth 65536
noncomputable section
namespace Cert.Tail
open Idealize.ShloMosaic hiding ix1 ix2 ix3 ix4 ix5 eq_ix1 eq_ix2 eq_ix3 eq_ix4 eq_ix5
open Idealize.ShloMosaic.TcCoe Idealize.SL.Sem
open Idealize.ShloMosaic.ValueIdx Cert.Rows
open Cert.Reference2Ideal Cert.Reference2Ideal.Gen Cert.Reference2Ideal.Read

variable (x0 x1 : FVec Ideal S32768x256 .f32) (x2 : FVec Ideal S32768x512 .f32) (x3 : FVec Ideal S32768x1024 .f32) (x4 : FVec Ideal S65536x256 .f32)
  (x5 : FVec Ideal S1024x1024 .f32) (x6 x7 : FVec Ideal S1024 .f32) (x8 : FVec Ideal S1024x4096 .f32) (x9 : FVec Ideal S4096x1024 .f32) (x10 : FVec Ideal S1024 .f32)
  (x11 : FVec Ideal S1024x1024 .f32) (x12 : FVec Ideal S256x1024 .f32) (x13 : FVec Ideal S1024 .f32)

/-- The mixers' outputs side by side. -/
theorem v0_at (i : Fin 32768) (k : Fin 1024) : val_main_v0 (F := Ideal) x0 x1 x2 (ix2 i k) = cat3 (mat x0 i) (mat x1 i) (mat x2 i) k := by
  unfold val_main_v0 cat3
  split_ifs with h1 h2
  · exact concatenate_apply_piece (t := S32768x1024) 1 _ _ (ix2 i k) 0 (by show 0 < 3; omega) S32768x256 x0 rfl rfl 0 rfl (ix2 i ⟨k, h1⟩)
      (fun b hb => match b with | ⟨0, _⟩ => rfl | ⟨1, _⟩ => absurd rfl hb) (by show 0 + k.val = k.val; omega)
  · exact concatenate_apply_piece (t := S32768x1024) 1 _ _ (ix2 i k) 1 (by show 1 < 3; omega) S32768x256 x1 rfl rfl 256 rfl (ix2 i ⟨k - 256, by omega⟩)
      (fun b hb => match b with | ⟨0, _⟩ => rfl | ⟨1, _⟩ => absurd rfl hb) (by show 256 + (k.val - 256) = k.val; omega)
  · exact concatenate_apply_piece (t := S32768x1024) 1 _ _ (ix2 i k) 2 (by show 2 < 3; omega) S32768x512 x2 rfl rfl 512 rfl (ix2 i ⟨k - 512, by omega⟩)
      (fun b hb => match b with | ⟨0, _⟩ => rfl | ⟨1, _⟩ => absurd rfl hb) (by show 512 + (k.val - 512) = k.val; omega)

/-- The rows after the mixers. -/
theorem v15_at (i : Fin 32768) (j : Fin 1024) : val_main_v15 (F := Ideal) x0 x1 x2 x3 x5 x6 (ix2 i j) = mixRow (mat x3 i) (cat3 (mat x0 i) (mat x1 i) (mat x2 i)) (mat x5) (vec x6) j := by
  have e : ∀ k, val_main_v1 (F := Ideal) x0 x1 x2 x5 (ix2 i k) = dotv (cat3 (mat x0 i) (mat x1 i) (mat x2 i)) (mat x5) k := fun k =>
    (host_dot (val_main_v0 (F := Ideal) x0 x1 x2) x5 i k).trans (congrArg (fun v => dotv v (mat x5) k) (funext fun q => v0_at x0 x1 x2 i q))
  rw [val_main_v15_apply]
  refine congrArg (fun v : EReal => x3 (ix2 i j) + v) ?_
  refine (host_rms (by decide) (val_main_v1 (F := Ideal) x0 x1 x2 x5) x6 reducesTo_S32768x1024_S32768_d1 h_S_ bcast_S32768_S32768x1_0 bcast_S_S32768x1 bcast_S32768x1_S32768x1024_0_1 bcast_S1024_S1x1024_1 bcast_S1x1024_S32768x1024_0_1 i j).trans ?_
  exact congrArg (fun v => rms v (vec x6) j) (funext e)

/-- The rows after the feed-forward block. -/
theorem v46_at (i : Fin 32768) (j : Fin 1024) : val_main_v46 (F := Ideal) x0 x1 x2 x3 x5 x6 x7 x8 x9 x10 (ix2 i j)
    = ffnRow (mixRow (mat x3 i) (cat3 (mat x0 i) (mat x1 i) (mat x2 i)) (mat x5) (vec x6)) (vec x7) (mat x8) (mat x9) (vec x10) j := by
  have e28 : ∀ k, val_main_v28 (F := Ideal) x0 x1 x2 x3 x5 x6 x7 (ix2 i k) = rms (mixRow (mat x3 i) (cat3 (mat x0 i) (mat x1 i) (mat x2 i)) (mat x5) (vec x6)) (vec x7) k := fun k =>
    (host_rms (by decide) (val_main_v15 (F := Ideal) x0 x1 x2 x3 x5 x6) x7 reducesTo_S32768x1024_S32768_d1 h_S_ bcast_S32768_S32768x1_0 bcast_S_S32768x1 bcast_S32768x1_S32768x1024_0_1 bcast_S1024_S1x1024_1 bcast_S1x1024_S32768x1024_0_1 i k).trans
      (congrArg (fun v => rms v (vec x7) k) (funext fun q => v15_at x0 x1 x2 x3 x5 x6 i q))
  have e30 : ∀ k, val_main_v30 (F := Ideal) x0 x1 x2 x3 x5 x6 x7 x8 (ix2 i k) = max (dotv (rms (mixRow (mat x3 i) (cat3 (mat x0 i) (mat x1 i) (mat x2 i)) (mat x5) (vec x6)) (vec x7)) (mat x8) k) 0 := fun k => by
    rw [val_main_v30_apply, val_main_call0_v0_apply]
    exact congrArg₂ max ((host_dot (val_main_v28 (F := Ideal) x0 x1 x2 x3 x5 x6 x7) x8 i k).trans (congrArg (fun v => dotv v (mat x8) k) (funext e28))) Ideal.ofBits_zero_f32
  have e32 : ∀ k, val_main_v32 (F := Ideal) x0 x1 x2 x3 x5 x6 x7 x8 x9 (ix2 i k) = dotv (hidden (rms (mixRow (mat x3 i) (cat3 (mat x0 i) (mat x1 i) (mat x2 i)) (mat x5) (vec x6)) (vec x7)) (mat x8)) (mat x9) k := fun k =>
    (host_dot (val_main_v31 (F := Ideal) x0 x1 x2 x3 x5 x6 x7 x8) x9 i k).trans (congrArg (fun v => dotv v (mat x9) k) (funext fun q => congrArg₂ (· * ·) (e30 q) (e30 q)))
  rw [val_main_v46_apply]
  refine congrArg₂ (fun u v : EReal => u + v) (v15_at x0 x1 x2 x3 x5 x6 i j) ?_
  refine (host_rms (by decide) (val_main_v32 (F := Ideal) x0 x1 x2 x3 x5 x6 x7 x8 x9) x10 reducesTo_S32768x1024_S32768_d1 h_S_ bcast_S32768_S32768x1_0 bcast_S_S32768x1 bcast_S32768x1_S32768x1024_0_1 bcast_S1024_S1x1024_1 bcast_S1x1024_S32768x1024_0_1 i j).trans ?_
  exact congrArg (fun v => rms v (vec x10) j) (funext e32)

/-- The layer's per-layer embeddings: the second half of the argument's rows. -/
theorem v56_at (i : Fin 32768) (k : Fin 256) : val_main_v56 (F := Ideal) x4 (ix2 i k) = x4 (ix2 ⟨32768 + i, by omega⟩ k) := by
  rw [val_main_v56_apply, val_main_v55_apply, val_main_v54_apply]
  refine congrArg x4 (funext fun a => Fin.ext ?_)
  have hi := i.isLt
  have hk := k.isLt
  match a with
  | ⟨0, _⟩ => show (((1 + 0) * 32768 + (i.val * 256 + k.val) / 256 % 32768) * 256 + (i.val * 256 + k.val) % 256) / 256 = 32768 + i.val; omega
  | ⟨1, _⟩ => show (((1 + 0) * 32768 + (i.val * 256 + k.val) / 256 % 32768) * 256 + (i.val * 256 + k.val) % 256) % 256 = k.val; omega

/-- The reference's result at an index is the tail of the token's row. -/
theorem v72_at (i : Fin 32768) (j : Fin 1024) : val_main_v72 (F := Ideal) x0 x1 x2 x3 x4 x5 x6 x7 x8 x9 x10 x11 x12 x13 (ix2 i j) = tailOf x0 x1 x2 x3 x4 x5 x6 x7 x8 x9 x10 x11 x12 x13 i j := by
  have e46 := funext fun q => v46_at x0 x1 x2 x3 x5 x6 x7 x8 x9 x10 i q
  have e53 : ∀ k, val_main_v53 (F := Ideal) x0 x1 x2 x3 x5 x6 x7 x8 x9 x10 x11 (ix2 i k)
      = Ideal.logistic (dotv (ffnRow (mixRow (mat x3 i) (cat3 (mat x0 i) (mat x1 i) (mat x2 i)) (mat x5) (vec x6)) (vec x7) (mat x8) (mat x9) (vec x10)) (mat x11) k) := fun k => by
    have e47 : val_main_v47 (F := Ideal) x0 x1 x2 x3 x5 x6 x7 x8 x9 x10 x11 (ix2 i k) = _ :=
      (host_dot (val_main_v46 (F := Ideal) x0 x1 x2 x3 x5 x6 x7 x8 x9 x10) x11 i k).trans (congrArg (fun v => dotv v (mat x11) k) e46)
    rw [val_main_v53_apply, val_main_v51_apply, val_main_v49_apply, val_main_v48_apply, val_main_v50_apply, val_main_v52_apply, e47]
    show Ideal.div (Ideal.ofBits .f32 0x3F800000#32) (Ideal.ofBits .f32 0x3F800000#32 + Ideal.exp (-_)) = _
    rw [Ideal.ofBits_one_f32]
    rfl
  have e57 : ∀ k, val_main_v57 (F := Ideal) x4 x12 (ix2 i k) = dotv (mat x4 ⟨32768 + i, by omega⟩) (mat x12) k := fun k =>
    (host_dot (val_main_v56 (F := Ideal) x4) x12 i k).trans (congrArg (fun v => dotv v (mat x12) k) (funext fun q => v56_at x4 i q))
  rw [val_main_v72_apply]
  refine congrArg₂ (fun u v : EReal => u + v) (congrFun e46 j) ?_
  refine (host_rms (by decide) (val_main_v58 (F := Ideal) x0 x1 x2 x3 x4 x5 x6 x7 x8 x9 x10 x11 x12) x13 reducesTo_S32768x1024_S32768_d1 h_S_ bcast_S32768_S32768x1_0 bcast_S_S32768x1 bcast_S32768x1_S32768x1024_0_1 bcast_S1024_S1x1024_1 bcast_S1x1024_S32768x1024_0_1 i j).trans ?_
  exact congrArg (fun v => rms v (vec x13) j) (funext fun k => congrArg₂ (· * ·) (e53 k) (e57 k))

/-- The kernel's tail gives the reference's result. -/
theorem algebraic_tail : @Cert.algebraic_Kernel2Ideal_Reference2Ideal Cert.Kernel2Ideal.Gen.facts Cert.Reference2Ideal.Gen.facts := by
  intro m g m' g' _ hargs
  refine ⟨fun c => (Cert.Kernel2Ideal.Gen.dats m 0 c).arrAt 14 Cert.Kernel2Ideal.cfg0.N, Cert.Kernel2Ideal.Value.run_blocks m g, ?_⟩
  refine (θ_run _ _ _).mono (fun r h c => ⟨(h c).1.trans ?_, (h c).2⟩) (Cert.Reference2Ideal.Value.run m' g')
  obtain ⟨h0, h1, h2, h3, h4, h5, h6, h7, h8, h9, h10, h11, h12, h13⟩ := hargs c
  refine (val_main_v72_eq _).trans (funext fun i => ?_)
  obtain ⟨r, j, rfl⟩ : ∃ (r : Fin 32768) (j : Fin 1024), i = ix2 r j := ⟨i 0, i 1, eq_ix2 i⟩
  refine (v72_at _ _ _ _ _ _ _ _ _ _ _ _ _ _ r j).trans (Eq.trans ?_ (result_at m c r j).symm)
  show tailOf (m' (c, Proc.tc.devRef main_arg0)) (m' (c, Proc.tc.devRef main_arg1)) (m' (c, Proc.tc.devRef main_arg2)) (m' (c, Proc.tc.devRef main_arg3)) (m' (c, Proc.tc.devRef main_arg4)) (m' (c, Proc.tc.devRef main_arg5)) (m' (c, Proc.tc.devRef main_arg6)) (m' (c, Proc.tc.devRef main_arg7)) (m' (c, Proc.tc.devRef main_arg8)) (m' (c, Proc.tc.devRef main_arg9)) (m' (c, Proc.tc.devRef main_arg10)) (m' (c, Proc.tc.devRef main_arg11)) (m' (c, Proc.tc.devRef main_arg12)) (m' (c, Proc.tc.devRef main_arg13)) r j = _
  rw [h0, h1, h2, h3, h4, h5, h6, h7, h8, h9, h10, h11, h12, h13]

end Cert.Tail
-- ==== Proof.InProjBlock.lean ====
/- The input projection kernel's output blocks at an index, as functions of one row of the input block, and the columns
   that slices and padding leave of a matrix. -/
module

public import proofs.«01_k».proof.Proof.Rows
public import proofs.«01_k».proof.Proof.Gen.Kernel3Ideal.Frame

@[expose] public section
set_option maxRecDepth 65536
noncomputable section
namespace Cert.InProj
open Idealize.ShloMosaic hiding ix1 ix2 ix3 ix4 ix5 eq_ix1 eq_ix2 eq_ix3 eq_ix4 eq_ix5
open Cert.Kernel3Ideal Cert.Kernel3Ideal.Gen Idealize.ShloMosaic.TcCoe Idealize.SL.Sem Idealize.ShloMosaic.Tactic
open Idealize.ShloMosaic.ValueIdx Cert.Rows

/-! ## Columns of a row -/

/-- The `n` entries of a row from `o` on, then zeros. -/
def padded {K N : ℕ} (o n : ℕ) (h : o + n ≤ K) (f : Fin K → EReal) (j : Fin N) : EReal := if h' : j.val < n then f ⟨o + j.val, by omega⟩ else 0

/-- Slicing and padding a matrix's columns slices and pads the rows it is applied to. -/
theorem dotv_padded {L K N : ℕ} (o n : ℕ) (h : o + n ≤ K) (v : Fin L → EReal) (w : Fin L → Fin K → EReal) (j : Fin N) :
    dotv v (fun k => padded o n h (w k)) j = padded o n h (dotv v w) j := by
  unfold padded dotv
  by_cases h' : j.val < n
  · simp only [dif_pos h']
  · simp only [dif_neg h', mul_zero, Finset.sum_const_zero]

/-- Columns `o` to `o + n` of a matrix. -/
theorem slice_cols {M K n : ℕ} (o : ℕ) (h : o + n ≤ K) (X : FVec Ideal ⟨2, ![M, K]⟩ .f32) (hs : (⟨2, ![M, K]⟩ : Shape).Slices ![0, o] ⟨2, ![M, n]⟩) (r : Fin M) (j : Fin n) :
    extractStridedSlice ⟨2, ![M, n]⟩ ![0, o] X hs (ix2 r j) = padded o n h (mat X r) j := by
  unfold padded
  rw [dif_pos j.isLt]
  exact extractStridedSlice_apply ![0, o] X hs (ix2 r j) (ix2 r ⟨o + j.val, by omega⟩) fun a => match a with
    | ⟨0, _⟩ => by show r.val = 0 + r.val; omega
    | ⟨1, _⟩ => rfl

/-- Columns `o` to `o + n` of a matrix, then `p` columns of zeros. -/
theorem pad_cols {M K n N : ℕ} (o p : ℕ) (h : o + n ≤ K) (X : FVec Ideal ⟨2, ![M, K]⟩ .f32) (hs : (⟨2, ![M, K]⟩ : Shape).Slices ![0, o] ⟨2, ![M, n]⟩)
    (z : FVec Ideal ⟨0, ![]⟩ .f32) (hz : ∀ i, z i = 0) (hp : (⟨2, ![M, n]⟩ : Shape).Pads ![0, 0] ![0, p] ![0, 0] ⟨2, ![M, N]⟩) (h0 : 0 < (⟨0, ![]⟩ : Shape).numel) (r : Fin M) (j : Fin N) :
    pad ⟨2, ![M, N]⟩ ![0, 0] ![0, p] ![0, 0] (extractStridedSlice ⟨2, ![M, n]⟩ ![0, o] X hs) z hp h0 (ix2 r j) = padded o n h (mat X r) j := by
  by_cases h' : j.val < n
  · rw [pad_apply_of_inside _ _ _ _ _ hp h0 (ix2 r j) (ix2 r ⟨j.val, h'⟩) fun a => match a with
      | ⟨0, _⟩ => by show r.val = 0 + r.val * (0 + 1); omega
      | ⟨1, _⟩ => by show j.val = 0 + j.val * (0 + 1); omega, slice_cols o h]
    unfold padded
    rw [dif_pos h']
  · rw [pad_apply_of_not_inside _ _ _ _ _ hp h0 (ix2 r j) (1 : Fin 2) fun hc => h' (by
      have h2 : (j.val - 0) / (0 + 1) < n := hc.2.2
      omega), hz]
    unfold padded
    rw [dif_neg h']

/-- The integer zero as a float is zero. -/
theorem zero_at (i : (⟨0, ![]⟩ : Shape).Idx) : (sitofp .f32 (constantI ⟨0, ![]⟩ 32 0#32) : FVec Ideal ⟨0, ![]⟩ .f32) i = 0 := sitofp_zero

/-! ## The output blocks -/

/-- The normed rows. -/
theorem pay2_at (x : Vec Ideal S1024x1024 .f32) (g : Vec Ideal S1x1024 .f32) (r k : Fin 1024) :
    k0_pay2 (F := Ideal) x g (ix2 r k) = rms (mat (e := .f32) x r) (mat (e := .f32) g 0) k := by
  unfold k0_pay2
  dsimp only
  simp only [shapeCast_self]
  exact kernel_rms x g reduces_S1024x1024_S1024 shapeCasts_S1024_S1024x1 broadcasts_S1024x1_S1024x1024 broadcasts_S1x1024_S1024x1024 (.inl rfl) rfl r k

/-- A product of the normed rows. -/
theorem proj_at {N : ℕ} (x : Vec Ideal S1024x1024 .f32) (g : Vec Ideal S1x1024 .f32) (w : FVec Ideal ⟨2, ![1024, N]⟩ .bf16) (r : Fin 1024) (j : Fin N) :
    matmul (DotDims.plain 1024 1024 N) none (k0_pay2 (F := Ideal) x g) w (constant (F := Ideal) ⟨2, ![1024, N]⟩ .f32 0x00000000#32) (ix2 r j)
      = dotv (rms (mat (e := .f32) x r) (mat (e := .f32) g 0)) (mat w) j :=
  (kernel_dot _ w r j).trans (congrArg (fun v => dotv v (mat w) j) (funext fun k => pay2_at x g r k))

variable (x0 : Vec Ideal S1024x1024 .f32) (x1 : Vec Ideal S1x1024 .f32) (x2 : Vec Ideal S1024x1024 .bf16) (x3 : Vec Ideal S1024x512 .bf16)
  (x4 : Vec Ideal S1024x1792 .bf16) (x5 : Vec Ideal S1024x128 .bf16) (x6 : Vec Ideal S8x1024 .bf16)

theorem out7_at (r : Fin 1024) (j : Fin 1024) :
    out0_7 (F := Ideal) x0 x1 x2 x3 x4 x5 x6 (ix2 r j) = dotv (rms (mat (e := .f32) x0 r) (mat (e := .f32) x1 0)) (mat (e := .bf16) x2) j := by
  unfold out0_7
  rw [View.canon_cons_unit_lit _ _ _ (by decide), View.ld_unit_lit _ x0 (by decide), View.ld_unit_lit _ x1 (by decide), View.ld_unit_lit _ x2 (by decide)]
  unfold k0_pay3
  simp only [shapeCast_self]
  exact proj_at x0 x1 x2 r j

theorem out8_at (r : Fin 1024) (j : Fin 512) :
    out0_8 (F := Ideal) x0 x1 x2 x3 x4 x5 x6 (ix2 r j) = dotv (rms (mat (e := .f32) x0 r) (mat (e := .f32) x1 0)) (mat (e := .bf16) x3) j := by
  unfold out0_8
  rw [View.canon_cons_unit_lit _ _ _ (by decide), View.ld_unit_lit _ x0 (by decide), View.ld_unit_lit _ x1 (by decide), View.ld_unit_lit _ x3 (by decide)]
  unfold k0_pay4
  simp only [shapeCast_self]
  exact proj_at x0 x1 x3 r j

theorem out9_at (r : Fin 1024) (j : Fin 1792) :
    out0_9 (F := Ideal) x0 x1 x2 x3 x4 x5 x6 (ix2 r j) = dotv (rms (mat (e := .f32) x0 r) (mat (e := .f32) x1 0)) (mat (e := .bf16) x4) j := by
  unfold out0_9
  rw [View.canon_cons_unit_lit _ _ _ (by decide), View.ld_unit_lit _ x0 (by decide), View.ld_unit_lit _ x1 (by decide), View.ld_unit_lit _ x4 (by decide)]
  unfold k0_pay5
  simp only [shapeCast_self]
  exact proj_at x0 x1 x4 r j

theorem out10_at (r : Fin 1024) (j : Fin 128) :
    out0_10 (F := Ideal) x0 x1 x2 x3 x4 x5 x6 (ix2 r j) = dotv (rms (mat (e := .f32) x0 r) (mat (e := .f32) x1 0)) (mat (e := .bf16) x5) j := by
  unfold out0_10
  rw [View.canon_cons_unit_lit _ _ _ (by decide), View.ld_unit_lit _ x0 (by decide), View.ld_unit_lit _ x1 (by decide), View.ld_unit_lit _ x5 (by decide)]
  unfold k0_pay6
  simp only [shapeCast_self]
  exact proj_at x0 x1 x5 r j

/-- The gate columns, one token per column: the factors change places. -/
theorem out11_at (q : Fin 8) (r : Fin 1024) :
    out0_11 (F := Ideal) x0 x1 x2 x3 x4 x5 x6 (ix2 q r) = dotv (rms (mat (e := .f32) x0 r) (mat (e := .f32) x1 0)) (fun k q => x6 (ix2 q k)) q := by
  unfold out0_11
  rw [View.canon_cons_unit_lit _ _ _ (by decide), View.ld_unit_lit _ x0 (by decide), View.ld_unit_lit _ x1 (by decide), View.ld_unit_lit _ x6 (by decide)]
  unfold k0_pay1
  simp only [shapeCast_self]
  refine (Ideal.matmul_transposedRhs_apply (φ₁ := .bf16) (φ₂ := .bf16) none x6 (k0_pay2 (F := Ideal) x0 x1) (constant (F := Ideal) S8x1024 .f32 0x00000000#32) q r).trans ?_
  show Ideal.ofBits .f32 0x00000000#32 + _ = _
  rw [Ideal.ofBits_zero_f32, zero_add]
  refine Finset.sum_congr rfl fun k _ => ?_
  rw [pay2_at]
  exact mul_comm _ _

end Cert.InProj
-- ==== Proof.InProjArray.lean ====
/- The input projection kernel's result arrays at an index, as functions of one row of the input. -/
module

public import proofs.«01_k».proof.Proof.InProjBlock
public import proofs.«01_k».proof.Proof.Gen.Kernel3Ideal.Value

@[expose] public section
set_option maxRecDepth 65536
noncomputable section
namespace Cert.InProj
open Idealize.ShloMosaic hiding ix1 ix2 ix3 ix4 ix5 eq_ix1 eq_ix2 eq_ix3 eq_ix4 eq_ix5
open Cert.Kernel3Ideal Cert.Kernel3Ideal.Gen Idealize.ShloMosaic.TcCoe Idealize.SL.Sem Idealize.ShloMosaic.Tactic
open Idealize.ShloMosaic.ValueIdx Cert.Rows

/-- Token `i`'s input row, normed and multiplied by the projection's matrix. -/
def projOf (x : FVec Ideal S32768x1024 .f32) (g : FVec Ideal S1024 .f32) (w : FVec Ideal S1024x3240 .f32) (i : Fin 32768) : Fin 3240 → EReal :=
  dotv (rms (mat x i) (vec g)) (mat w)

variable (m : (ℓ : Loc nD τ sig) → Buf (Elt Ideal) ℓ) (c : Dev nD)

/-- The matrix, as launched. -/
abbrev wIn : FVec Ideal S1024x3240 .f32 := m (c, Proc.tc.devRef main_arg2)

/-- The projection of the launched buffers. -/
abbrev projM (i : Fin 32768) : Fin 3240 → EReal := projOf (m (c, Proc.tc.devRef main_arg0)) (m (c, Proc.tc.devRef main_arg1)) (m (c, Proc.tc.devRef main_arg2)) i

/-! ## The buffers the host fills before the launch -/

/-- The host's operations before the launch. -/
abbrev host : List (HloOp τ sig (Elt Ideal)) := List.flatten [hostOps0, hostOps0_1, hostOps0_2, hostOps0_3, hostOps0_4]

theorem V_v1 : V m c main_v1 = shapeCast S1x1024 (m (c, Proc.tc.devRef main_arg1) : FVec Ideal S1024 .f32) shapeCasts_S1024_S1x1024 := by
  show StableHlo.after host (fun b => m (c, b)) (Proc.devRef .tc main_v1) = _
  simp only [host, hostOps0, hostOps0_1, hostOps0_2, hostOps0_3, hostOps0_4, List.flatten_cons, List.flatten_nil, List.append_nil, List.cons_append, List.nil_append]
  after_results
  rfl
theorem V_v3 : (V m c main_v3 : S1024x1024.Idx → EReal) = extractStridedSlice S1024x1024 ![0, 0] (wIn m c) slices_S1024x3240_S1024x1024_0_0 := by
  show StableHlo.after host (fun b => m (c, b)) (Proc.devRef .tc main_v3) = _
  simp only [host, hostOps0, hostOps0_1, hostOps0_2, hostOps0_3, hostOps0_4, List.flatten_cons, List.flatten_nil, List.append_nil, List.cons_append, List.nil_append]
  after_results
  rfl
theorem V_v5 : (V m c main_v5 : S1024x512.Idx → EReal) = extractStridedSlice S1024x512 ![0, 1032] (wIn m c) slices_S1024x3240_S1024x512_0_1032 := by
  show StableHlo.after host (fun b => m (c, b)) (Proc.devRef .tc main_v5) = _
  simp only [host, hostOps0, hostOps0_1, hostOps0_2, hostOps0_3, hostOps0_4, List.flatten_cons, List.flatten_nil, List.append_nil, List.cons_append, List.nil_append]
  after_results
  rfl
theorem V_v8 : (V m c main_v8 : S1024x1792.Idx → EReal) = pad S1024x1792 ![0, 0] ![0, 96] ![0, 0] (extractStridedSlice S1024x1696 ![0, 1544] (wIn m c) slices_S1024x3240_S1024x1696_0_1544)
    (sitofp .f32 (constantI S_ 32 0#32) : FVec Ideal S_ .f32) pads_S1024x1696_S1024x1792_000_0960 h_S_ := by
  show StableHlo.after host (fun b => m (c, b)) (Proc.devRef .tc main_v8) = _
  simp only [host, hostOps0, hostOps0_1, hostOps0_2, hostOps0_3, hostOps0_4, List.flatten_cons, List.flatten_nil, List.append_nil, List.cons_append, List.nil_append]
  after_results
  rfl
theorem V_v10 : (V m c main_v10 : S1024x128.Idx → EReal) = pad S1024x128 ![0, 0] ![0, 120] ![0, 0] (extractStridedSlice S1024x8 ![0, 1024] (wIn m c) slices_S1024x3240_S1024x8_0_1024)
    (sitofp .f32 (constantI S_ 32 0#32) : FVec Ideal S_ .f32) pads_S1024x8_S1024x128_000_01200 h_S_ := by
  show StableHlo.after host (fun b => m (c, b)) (Proc.devRef .tc main_v10) = _
  simp only [host, hostOps0, hostOps0_1, hostOps0_2, hostOps0_3, hostOps0_4, List.flatten_cons, List.flatten_nil, List.append_nil, List.cons_append, List.nil_append]
  after_results
  rfl
theorem V_v12 : (V m c main_v12 : S8x1024.Idx → EReal) = transpose S8x1024 [1, 0] (extractStridedSlice S1024x8 ![0, 1024] (wIn m c) slices_S1024x3240_S1024x8_0_1024) transposes_S1024x8_S8x1024_1_0 := by
  show StableHlo.after host (fun b => m (c, b)) (Proc.devRef .tc main_v12) = _
  simp only [host, hostOps0, hostOps0_1, hostOps0_2, hostOps0_3, hostOps0_4, List.flatten_cons, List.flatten_nil, List.append_nil, List.cons_append, List.nil_append]
  after_results
  rfl

/-! ## The windows' blocks -/

theorem idx_rows : ∀ t : Fin cfg0.N, (win0_0.index t (0 : Fin 2) = t.val ∧ win0_0.index t (1 : Fin 2) = 0) ∧ (win0_7.index t (0 : Fin 2) = t.val ∧ win0_7.index t (1 : Fin 2) = 0)
    ∧ (win0_8.index t (0 : Fin 2) = t.val ∧ win0_8.index t (1 : Fin 2) = 0) ∧ (win0_9.index t (0 : Fin 2) = t.val ∧ win0_9.index t (1 : Fin 2) = 0)
    ∧ (win0_10.index t (0 : Fin 2) = t.val ∧ win0_10.index t (1 : Fin 2) = 0) ∧ (win0_11.index t (0 : Fin 2) = 0 ∧ win0_11.index t (1 : Fin 2) = t.val) :=
  (by decide +kernel : ∀ t : Fin grid0.N, _)
theorem idx_whole : ∀ t : Fin cfg0.N, (∀ a, win0_1.index t a = 0) ∧ (∀ a, win0_2.index t a = 0) ∧ (∀ a, win0_3.index t a = 0) ∧ (∀ a, win0_4.index t a = 0) ∧ (∀ a, win0_5.index t a = 0)
    ∧ (∀ a, win0_6.index t a = 0) :=
  (by decide +kernel : ∀ t : Fin grid0.N, _)

/-- Row `r` of point `t`'s block of rows. -/
abbrev rowAt (t : Fin cfg0.N) (r : Fin 1024) : Fin 32768 := ⟨1024 * t.val + r.val, by have := lt_of_lt_of_eq t.isLt N_0; omega⟩

theorem iblk0_at (t : Fin cfg0.N) (r : Fin 1024) : mat (e := .f32) (iblk m c 0 t) r = mat (e := .f32) (m (c, Proc.tc.devRef main_arg0) : FVec Ideal S32768x1024 .f32) (rowAt t r) := by
  obtain ⟨⟨e0, e1⟩, -⟩ := idx_rows t
  funext j
  show V m c main_arg0 (((cfg0.win 0).blk t).view.emb (ix2 r j)) = _
  rw [V_main_arg0]
  refine congrArg (m (c, Proc.tc.devRef main_arg0) : FVec Ideal S32768x1024 .f32) (funext fun a => Fin.ext ?_)
  match a with
  | ⟨0, _⟩ => show win0_0.index t (0 : Fin 2) * 1024 + 1 * r.val = 1024 * t.val + r.val; omega
  | ⟨1, _⟩ => show win0_0.index t (1 : Fin 2) * 1024 + 1 * j.val = j.val; omega

theorem iblk1_at (t : Fin cfg0.N) : mat (e := .f32) (iblk m c 1 t) 0 = vec (m (c, Proc.tc.devRef main_arg1) : FVec Ideal S1024 .f32) := funext fun k =>
  (congrArg (V m c main_v1 : FVec Ideal S1x1024 .f32) (emb_whole _ (ix2 0 k) _ (idx_whole t).1 fun _ => rfl)).trans ((congrFun (V_v1 m c) (ix2 0 k)).trans (row_at _ _ k))
theorem iblk2_at (t : Fin cfg0.N) : mat (e := .bf16) (iblk m c 2 t) = fun k => padded 0 1024 (by omega) (mat (wIn m c) k) := funext fun k => funext fun j =>
  (congrArg (V m c main_v3 : S1024x1024.Idx → EReal) (emb_whole _ (ix2 k j) _ (idx_whole t).2.1 fun _ => rfl)).trans ((congrFun (V_v3 m c) (ix2 k j)).trans (slice_cols 0 _ _ _ k j))
theorem iblk3_at (t : Fin cfg0.N) : mat (e := .bf16) (iblk m c 3 t) = fun k => padded 1032 512 (by omega) (mat (wIn m c) k) := funext fun k => funext fun j =>
  (congrArg (V m c main_v5 : S1024x512.Idx → EReal) (emb_whole _ (ix2 k j) _ (idx_whole t).2.2.1 fun _ => rfl)).trans ((congrFun (V_v5 m c) (ix2 k j)).trans (slice_cols 1032 _ _ _ k j))
theorem iblk4_at (t : Fin cfg0.N) : mat (e := .bf16) (iblk m c 4 t) = fun k => padded 1544 1696 (by omega) (mat (wIn m c) k) := funext fun k => funext fun j =>
  (congrArg (V m c main_v8 : S1024x1792.Idx → EReal) (emb_whole _ (ix2 k j) _ (idx_whole t).2.2.2.1 fun _ => rfl)).trans
    ((congrFun (V_v8 m c) (ix2 k j)).trans (pad_cols 1544 96 _ _ _ _ zero_at _ _ k j))
theorem iblk5_at (t : Fin cfg0.N) : mat (e := .bf16) (iblk m c 5 t) = fun k => padded 1024 8 (by omega) (mat (wIn m c) k) := funext fun k => funext fun j =>
  (congrArg (V m c main_v10 : S1024x128.Idx → EReal) (emb_whole _ (ix2 k j) _ (idx_whole t).2.2.2.2.1 fun _ => rfl)).trans
    ((congrFun (V_v10 m c) (ix2 k j)).trans (pad_cols 1024 120 _ _ _ _ zero_at _ _ k j))
theorem iblk6_at (t : Fin cfg0.N) (k : Fin 1024) (q : Fin 8) : (iblk m c 6 t : S8x1024.Idx → EReal) (ix2 q k) = padded 1024 8 (by omega) (mat (wIn m c) k) q :=
  (congrArg (V m c main_v12 : S8x1024.Idx → EReal) (emb_whole _ (ix2 q k) _ (idx_whole t).2.2.2.2.2 fun _ => rfl)).trans
    ((congrFun (V_v12 m c) (ix2 q k)).trans ((transpose_apply [1, 0] _ _ (ix2 q k) (ix2 k q) (fun b => match b with | ⟨0, _⟩ => rfl | ⟨1, _⟩ => rfl)).trans (slice_cols 1024 _ _ _ k q)))

/-! ## What a grid point computes -/

/-- A product of the normed rows with columns of the matrix is those columns of the rows' projection. -/
theorem point_at {N : ℕ} (o n : ℕ) (h : o + n ≤ 3240) (t : Fin cfg0.N) (r : Fin 1024) (w : Fin 1024 → Fin N → EReal) (hw : w = fun k => padded o n h (mat (wIn m c) k)) (j : Fin N) :
    dotv (rms (mat (e := .f32) (iblk m c 0 t) r) (mat (e := .f32) (iblk m c 1 t) 0)) w j = padded o n h (projM m c (rowAt t r)) j := by
  rw [hw, dotv_padded, iblk0_at, iblk1_at]
  rfl

/-! ## The result arrays -/

/-- The grid point that computes token `i`. -/
abbrev pointOf (i : Fin 32768) : Fin cfg0.N := ⟨i.val / 1024, by rw [show cfg0.N = 32 from N_0]; omega⟩
/-- Its place in that point's block. -/
abbrev placeOf (i : Fin 32768) : Fin 1024 := ⟨i.val % 1024, by omega⟩

theorem rowAt_of (i : Fin 32768) : rowAt (pointOf i) (placeOf i) = i := Fin.ext (by show 1024 * (i.val / 1024) + i.val % 1024 = i.val; omega)

theorem result7_at (i : Fin 32768) (j : Fin 1024) : ((dats m 0 c).arrAt 7 cfg0.N : FVec Ideal S32768x1024 .f32) (ix2 i j) = padded 0 1024 (by omega) (projM m c i) j := by
  have e := congrFun (Value.blocks7 m c (pointOf i) (flush0_7 _)) (ix2 (placeOf i) j)
  rw [Value.flushed7] at e
  have hp := (out7_at (iblk m c 0 (pointOf i)) (iblk m c 1 (pointOf i)) (iblk m c 2 (pointOf i)) (iblk m c 3 (pointOf i)) (iblk m c 4 (pointOf i)) (iblk m c 5 (pointOf i)) (iblk m c 6 (pointOf i)) (placeOf i) j).trans (point_at m c 0 1024 (by omega) (pointOf i) (placeOf i) _ (iblk2_at m c (pointOf i)) j)
  rw [rowAt_of] at hp
  obtain ⟨-, ⟨f0, f1⟩, -⟩ := idx_rows (pointOf i)
  refine Eq.trans (congrArg ((dats m 0 c).arrAt 7 cfg0.N : FVec Ideal S32768x1024 .f32) (funext fun a => Fin.ext ?_)) (e.trans hp)
  match a with
  | ⟨0, _⟩ => show i.val = win0_7.index (pointOf i) (0 : Fin 2) * 1024 + 1 * (i.val % 1024); rw [f0]; show i.val = i.val / 1024 * 1024 + 1 * (i.val % 1024); omega
  | ⟨1, _⟩ => show j.val = win0_7.index (pointOf i) (1 : Fin 2) * 1024 + 1 * j.val; rw [f1]; omega

theorem result8_at (i : Fin 32768) (j : Fin 512) : ((dats m 0 c).arrAt 8 cfg0.N : FVec Ideal S32768x512 .f32) (ix2 i j) = padded 1032 512 (by omega) (projM m c i) j := by
  have e := congrFun (Value.blocks8 m c (pointOf i) (flush0_8 _)) (ix2 (placeOf i) j)
  rw [Value.flushed8] at e
  have hp := (out8_at (iblk m c 0 (pointOf i)) (iblk m c 1 (pointOf i)) (iblk m c 2 (pointOf i)) (iblk m c 3 (pointOf i)) (iblk m c 4 (pointOf i)) (iblk m c 5 (pointOf i)) (iblk m c 6 (pointOf i)) (placeOf i) j).trans (point_at m c 1032 512 (by omega) (pointOf i) (placeOf i) _ (iblk3_at m c (pointOf i)) j)
  rw [rowAt_of] at hp
  obtain ⟨-, -, ⟨f0, f1⟩, -⟩ := idx_rows (pointOf i)
  refine Eq.trans (congrArg ((dats m 0 c).arrAt 8 cfg0.N : FVec Ideal S32768x512 .f32) (funext fun a => Fin.ext ?_)) (e.trans hp)
  match a with
  | ⟨0, _⟩ => show i.val = win0_8.index (pointOf i) (0 : Fin 2) * 1024 + 1 * (i.val % 1024); rw [f0]; show i.val = i.val / 1024 * 1024 + 1 * (i.val % 1024); omega
  | ⟨1, _⟩ => show j.val = win0_8.index (pointOf i) (1 : Fin 2) * 512 + 1 * j.val; rw [f1]; omega

theorem result9_at (i : Fin 32768) (j : Fin 1792) : ((dats m 0 c).arrAt 9 cfg0.N : FVec Ideal S32768x1792 .f32) (ix2 i j) = padded 1544 1696 (by omega) (projM m c i) j := by
  have e := congrFun (Value.blocks9 m c (pointOf i) (flush0_9 _)) (ix2 (placeOf i) j)
  rw [Value.flushed9] at e
  have hp := (out9_at (iblk m c 0 (pointOf i)) (iblk m c 1 (pointOf i)) (iblk m c 2 (pointOf i)) (iblk m c 3 (pointOf i)) (iblk m c 4 (pointOf i)) (iblk m c 5 (pointOf i)) (iblk m c 6 (pointOf i)) (placeOf i) j).trans (point_at m c 1544 1696 (by omega) (pointOf i) (placeOf i) _ (iblk4_at m c (pointOf i)) j)
  rw [rowAt_of] at hp
  obtain ⟨-, -, -, ⟨f0, f1⟩, -⟩ := idx_rows (pointOf i)
  refine Eq.trans (congrArg ((dats m 0 c).arrAt 9 cfg0.N : FVec Ideal S32768x1792 .f32) (funext fun a => Fin.ext ?_)) (e.trans hp)
  match a with
  | ⟨0, _⟩ => show i.val = win0_9.index (pointOf i) (0 : Fin 2) * 1024 + 1 * (i.val % 1024); rw [f0]; show i.val = i.val / 1024 * 1024 + 1 * (i.val % 1024); omega
  | ⟨1, _⟩ => show j.val = win0_9.index (pointOf i) (1 : Fin 2) * 1792 + 1 * j.val; rw [f1]; omega

theorem result10_at (i : Fin 32768) (j : Fin 128) : ((dats m 0 c).arrAt 10 cfg0.N : FVec Ideal S32768x128 .f32) (ix2 i j) = padded 1024 8 (by omega) (projM m c i) j := by
  have e := congrFun (Value.blocks10 m c (pointOf i) (flush0_10 _)) (ix2 (placeOf i) j)
  rw [Value.flushed10] at e
  have hp := (out10_at (iblk m c 0 (pointOf i)) (iblk m c 1 (pointOf i)) (iblk m c 2 (pointOf i)) (iblk m c 3 (pointOf i)) (iblk m c 4 (pointOf i)) (iblk m c 5 (pointOf i)) (iblk m c 6 (pointOf i)) (placeOf i) j).trans (point_at m c 1024 8 (by omega) (pointOf i) (placeOf i) _ (iblk5_at m c (pointOf i)) j)
  rw [rowAt_of] at hp
  obtain ⟨-, -, -, -, ⟨f0, f1⟩, -⟩ := idx_rows (pointOf i)
  refine Eq.trans (congrArg ((dats m 0 c).arrAt 10 cfg0.N : FVec Ideal S32768x128 .f32) (funext fun a => Fin.ext ?_)) (e.trans hp)
  match a with
  | ⟨0, _⟩ => show i.val = win0_10.index (pointOf i) (0 : Fin 2) * 1024 + 1 * (i.val % 1024); rw [f0]; show i.val = i.val / 1024 * 1024 + 1 * (i.val % 1024); omega
  | ⟨1, _⟩ => show j.val = win0_10.index (pointOf i) (1 : Fin 2) * 128 + 1 * j.val; rw [f1]; omega

theorem result11_at (q : Fin 8) (i : Fin 32768) : ((dats m 0 c).arrAt 11 cfg0.N : FVec Ideal S8x32768 .f32) (ix2 q i) = padded 1024 8 (by omega) (projM m c i) q := by
  have e := congrFun (Value.blocks11 m c (pointOf i) (flush0_11 _)) (ix2 q (placeOf i))
  rw [Value.flushed11] at e
  have hp := (out11_at (iblk m c 0 (pointOf i)) (iblk m c 1 (pointOf i)) (iblk m c 2 (pointOf i)) (iblk m c 3 (pointOf i)) (iblk m c 4 (pointOf i)) (iblk m c 5 (pointOf i)) (iblk m c 6 (pointOf i)) q (placeOf i)).trans (point_at m c 1024 8 (by omega) (pointOf i) (placeOf i) _ (funext fun k => funext fun q => iblk6_at m c (pointOf i) k q) q)
  rw [rowAt_of] at hp
  obtain ⟨-, -, -, -, -, f0, f1⟩ := idx_rows (pointOf i)
  refine Eq.trans (congrArg ((dats m 0 c).arrAt 11 cfg0.N : FVec Ideal S8x32768 .f32) (funext fun a => Fin.ext ?_)) (e.trans hp)
  match a with
  | ⟨0, _⟩ => show q.val = win0_11.index (pointOf i) (0 : Fin 2) * 8 + 1 * q.val; rw [f0]; omega
  | ⟨1, _⟩ => show i.val = win0_11.index (pointOf i) (1 : Fin 2) * 1024 + 1 * (i.val % 1024); rw [f1]; show i.val = i.val / 1024 * 1024 + 1 * (i.val % 1024); omega

end Cert.InProj
-- ==== Proof.InProjRef.lean ====
/- The reference's input projection at an index, as the same functions of one row of the input, and the two programs'
   results joined. -/
module

public import proofs.«01_k».proof.Proof.InProjArray
public import proofs.«01_k».proof.Proof.Gen.Reference3Ideal.Read
public import proofs.«01_k».proof.Proof.Gen.Reference3Ideal.Run
public import proofs.«01_k».proof.Defs

@[expose] public section
set_option maxRecDepth 65536
noncomputable section
namespace Cert.InProj
open Idealize.ShloMosaic hiding ix1 ix2 ix3 ix4 ix5 eq_ix1 eq_ix2 eq_ix3 eq_ix4 eq_ix5
open Idealize.ShloMosaic.TcCoe Idealize.SL.Sem
open Idealize.ShloMosaic.ValueIdx Cert.Rows
open Cert.Reference3Ideal Cert.Reference3Ideal.Gen Cert.Reference3Ideal.Read

variable (x : FVec Ideal S32768x1024 .f32) (g : FVec Ideal S1024 .f32) (w : FVec Ideal S1024x3240 .f32)

/-- The whole product. -/
theorem v13_at (i : Fin 32768) : mat (e := .f32) (val_main_v13 (F := Ideal) x g w) i = projOf x g w i := funext fun k =>
  (host_dot (val_main_v12 (F := Ideal) x g) w i k).trans (congrArg (fun v => dotv v (mat w) k) (funext fun q =>
    host_rms (by decide) x g reducesTo_S32768x1024_S32768_d1 h_S_ bcast_S32768_S32768x1_0 bcast_S_S32768x1 bcast_S32768x1_S32768x1024_0_1 bcast_S1024_S1x1024_1 bcast_S1x1024_S32768x1024_0_1 i q))

/-- Columns `o` to `o + n` of the product, then `N - n` columns of zeros. -/
abbrev part {N : ℕ} (o n : ℕ) (h : o + n ≤ 3240) (i : Fin 32768) (j : Fin N) : EReal := padded o n h (projOf x g w i) j

theorem v14_at (i : Fin 32768) (j : Fin 8) : val_main_v14 (F := Ideal) x g w (ix2 i j) = part x g w 1024 8 (by omega) i j :=
  (slice_cols 1024 (by omega) (val_main_v13 (F := Ideal) x g w) slices_S32768x3240_S32768x8_0_1024 i j).trans (congrArg (fun f => padded 1024 8 _ f j) (v13_at x g w i))
theorem v15_at (i : Fin 32768) (j : Fin 1024) : val_main_v15 (F := Ideal) x g w (ix2 i j) = part x g w 0 1024 (by omega) i j :=
  (slice_cols 0 (by omega) (val_main_v13 (F := Ideal) x g w) slices_S32768x3240_S32768x1024_0_0 i j).trans (congrArg (fun f => padded 0 1024 _ f j) (v13_at x g w i))
theorem v16_at (i : Fin 32768) (j : Fin 512) : val_main_v16 (F := Ideal) x g w (ix2 i j) = part x g w 1032 512 (by omega) i j :=
  (slice_cols 1032 (by omega) (val_main_v13 (F := Ideal) x g w) slices_S32768x3240_S32768x512_0_1032 i j).trans (congrArg (fun f => padded 1032 512 _ f j) (v13_at x g w i))
theorem v18_at (i : Fin 32768) (j : Fin 1792) : val_main_v18 (F := Ideal) x g w (ix2 i j) = part x g w 1544 1696 (by omega) i j :=
  (pad_cols 1544 96 (by omega) (val_main_v13 (F := Ideal) x g w) slices_S32768x3240_S32768x1696_0_1544 (val_main_call0_v0 (F := Ideal)) zero_at pads_S32768x1696_S32768x1792_000_0960 h_S_ i j).trans
    (congrArg (fun f => padded 1544 1696 _ f j) (v13_at x g w i))
theorem v19_at (i : Fin 32768) (j : Fin 128) : val_main_v19 (F := Ideal) x g w (ix2 i j) = part x g w 1024 8 (by omega) i j :=
  (pad_cols 1024 120 (by omega) (val_main_v13 (F := Ideal) x g w) slices_S32768x3240_S32768x8_0_1024 (val_main_call1_v0 (F := Ideal)) zero_at pads_S32768x8_S32768x128_000_01200 h_S_ i j).trans
    (congrArg (fun f => padded 1024 8 _ f j) (v13_at x g w i))
theorem v20_at (q : Fin 8) (i : Fin 32768) : val_main_v20 (F := Ideal) x g w (ix2 q i) = part x g w 1024 8 (by omega) i q := by
  rw [val_main_v20_apply]
  exact (congrArg (val_main_v14 (F := Ideal) x g w) (show idx_main_v20 (ix2 q i) = ix2 i q from funext fun a => match a with | ⟨0, _⟩ => rfl | ⟨1, _⟩ => rfl)).trans (v14_at x g w i q)

/-- Two matrices with the same entries are equal. -/
theorem mat_ext {a b : ℕ} (X Y : FVec Ideal ⟨2, ![a, b]⟩ .f32) (h : ∀ (r : Fin a) (j : Fin b), X (ix2 r j) = Y (ix2 r j)) : X = Y := funext fun i => by
  obtain ⟨r, j, rfl⟩ : ∃ (r : Fin a) (j : Fin b), i = ix2 r j := ⟨i 0, i 1, eq_ix2 i⟩
  exact h r j

/-- The kernel's input projection gives the reference's results. -/
theorem algebraic_in_proj : @Cert.algebraic_Kernel3Ideal_Reference3Ideal Cert.Kernel3Ideal.Gen.facts Cert.Reference3Ideal.Gen.facts := by
  intro m g m' g' _ hargs
  refine ⟨fun c => (Cert.Kernel3Ideal.Gen.dats m 0 c).arrAt 7 Cert.Kernel3Ideal.cfg0.N, fun c => (Cert.Kernel3Ideal.Gen.dats m 0 c).arrAt 8 Cert.Kernel3Ideal.cfg0.N,
    fun c => (Cert.Kernel3Ideal.Gen.dats m 0 c).arrAt 9 Cert.Kernel3Ideal.cfg0.N, fun c => (Cert.Kernel3Ideal.Gen.dats m 0 c).arrAt 10 Cert.Kernel3Ideal.cfg0.N,
    fun c => (Cert.Kernel3Ideal.Gen.dats m 0 c).arrAt 11 Cert.Kernel3Ideal.cfg0.N, Cert.Kernel3Ideal.Value.run_blocks m g, ?_⟩
  have hp : ∀ c i, projOf (m' (c, Proc.tc.devRef main_arg0)) (m' (c, Proc.tc.devRef main_arg1)) (m' (c, Proc.tc.devRef main_arg2)) i = projM m c i := fun c i => by
    obtain ⟨h0, h1, h2⟩ := hargs c
    rw [h0, h1, h2]
  refine (θ_run _ _ _).mono (fun r h c => ?_) (Cert.Reference3Ideal.Value.run m' g')
  obtain ⟨r0, r1, r2, r3, r4, ha⟩ := h c
  refine ⟨r0.trans ?_, r1.trans ?_, r2.trans ?_, r3.trans ?_, r4.trans ?_, ha⟩
  · exact (val_main_v15_eq _ _ _).trans (mat_ext _ _ fun i j => (v15_at _ _ _ i j).trans ((congrArg (fun f => padded 0 1024 (by omega) f j) (hp c i)).trans (result7_at m c i j).symm))
  · exact (val_main_v16_eq _ _ _).trans (mat_ext _ _ fun i j => (v16_at _ _ _ i j).trans ((congrArg (fun f => padded 1032 512 (by omega) f j) (hp c i)).trans (result8_at m c i j).symm))
  · exact (val_main_v18_eq _ _ _).trans (mat_ext _ _ fun i j => (v18_at _ _ _ i j).trans ((congrArg (fun f => padded 1544 1696 (by omega) f j) (hp c i)).trans (result9_at m c i j).symm))
  · exact (val_main_v19_eq _ _ _).trans (mat_ext _ _ fun i j => (v19_at _ _ _ i j).trans ((congrArg (fun f => padded 1024 8 (by omega) f j) (hp c i)).trans (result10_at m c i j).symm))
  · exact (val_main_v20_eq _ _ _).trans (mat_ext _ _ fun q i => (v20_at _ _ _ q i).trans ((congrArg (fun f => padded 1024 8 (by omega) f q) (hp c i)).trans (result11_at m c q i).symm))

end Cert.InProj
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.ReferenceIdeal.Step
public import proofs.«01_k».proof.Proof.Gen.Reference2Ideal.Run
public import proofs.«01_k».proof.Proof.Gen.Reference3Ideal.Run
public import proofs.«01_k».proof.Proof.Gen.Reference2Ideal.Read
public import proofs.«01_k».proof.Proof.Gen.Reference3Ideal.Read
public import proofs.«01_k».proof.Proof.Frames
public import proofs.«01_k».proof.Proof.LruClaim
public import proofs.«01_k».proof.Proof.TailRef
public import proofs.«01_k».proof.Proof.InProjRef
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
    fun m ρ _ => Cert.Kernel.Gen.frame m ρ, fun m ρ _ => Cert.KernelIdeal.Gen.frame m ρ, Cert.Frames.reference,
    fun m ρ _ => Cert.Kernel2.Gen.frame m ρ, fun m ρ _ => Cert.Kernel2Ideal.Gen.frame m ρ, Cert.Frames.reference2,
    fun m ρ _ => Cert.Kernel3.Gen.frame m ρ, fun m ρ _ => Cert.Kernel3Ideal.Gen.frame m ρ, Cert.Frames.reference3,
    trivial, Cert.Lru.algebraic_lru, trivial, Cert.Tail.algebraic_tail, trivial, Cert.InProj.algebraic_in_proj⟩

end Cert.Proof

end
